-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S256x2048 : Shape := ⟨2, ![256, 2048]⟩
abbrev S4 : Shape := ⟨1, ![4]⟩
abbrev S_ : Shape := ⟨0, ![]⟩
abbrev S512x256 : Shape := ⟨2, ![512, 256]⟩
abbrev S256x512 : Shape := ⟨2, ![256, 512]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S512x512, .bf16⟩
  | .hbm, ⟨1, _⟩ => ⟨S512x2048, .bf16⟩
  | .hbm, ⟨2, _⟩ => ⟨S256x2048, .f32⟩
  | .local _ .vmem, ⟨0, _⟩ => ⟨S512x512, .bf16⟩
  | .local _ .vmem, ⟨1, _⟩ => ⟨S512x2048, .bf16⟩
  | .local _ .vmem, ⟨2, _⟩ => ⟨S256x2048, .f32⟩
  | .local _ .vmem, ⟨3, _⟩ => ⟨S256x2048, .bf16⟩
  | .local _ .vmem, ⟨4, _⟩ => ⟨S256x2048, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v23 : BitVec 32 := Scalar.muli v2 c4_i32_15
  let v24 : BitVec 32 := Scalar.addi c0_i32_16 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v25 : BitVec 32 := Scalar.muli v5 c2_i32_17
  let v26 : BitVec 32 := Scalar.addi v24 v25
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_18 : BitVec 32 := 1#32
  let v27 : BitVec 32 := Scalar.muli v9 c1_i32_18
  let v28 : BitVec 32 := Scalar.addi v26 v27
  v28.toNat
def k0_dev3 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v41 : BitVec 32 := Scalar.muli v2 c4_i32_29
  let v42 : BitVec 32 := Scalar.addi c0_i32_30 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v43 : BitVec 32 := Scalar.muli v5 c2_i32_31
  let v44 : BitVec 32 := Scalar.addi v42 v43
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_32 : BitVec 32 := 1#32
  let v45 : BitVec 32 := Scalar.muli v9 c1_i32_32
  let v46 : BitVec 32 := Scalar.addi v44 v45
  v46.toNat
def k0_dev4 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v59 : BitVec 32 := Scalar.muli v2 c4_i32_42
  let v60 : BitVec 32 := Scalar.addi c0_i32_43 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v61 : BitVec 32 := Scalar.muli v5 c2_i32_44
  let v62 : BitVec 32 := Scalar.addi v60 v61
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_45 : BitVec 32 := 1#32
  let v63 : BitVec 32 := Scalar.muli v9 c1_i32_45
  let v64 : BitVec 32 := Scalar.addi v62 v63
  v64.toNat
def k0_dev5 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v77 : BitVec 32 := Scalar.muli v2 c4_i32_54
  let v78 : BitVec 32 := Scalar.addi c0_i32_55 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v79 : BitVec 32 := Scalar.muli v5 c2_i32_56
  let v80 : BitVec 32 := Scalar.addi v78 v79
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_57 : BitVec 32 := 1#32
  let v81 : BitVec 32 := Scalar.muli v9 c1_i32_57
  let v82 : BitVec 32 := Scalar.addi v80 v81
  v82.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x2048, .bf16⟩
  | .hbm, ⟨2, _⟩ => ⟨S512x1024, .bf16⟩
  | .hbm, ⟨3, _⟩ => ⟨S512x2048, .f32⟩
  | .hbm, ⟨4, _⟩ => ⟨S512x2048, .bf16⟩
  | .hbm, ⟨5, _⟩ => ⟨S512x2048, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Ideal.Windows.lean ====
/-
The places of the reduce-scatter kernel: which device pairs with which, the buffers and their column
windows, the semaphores, and the blocks of values the kernel computes, sends and writes.

A device `c` of the 2×2×2 mesh exchanges with the one device that differs from it in the last mesh
coordinate only. The send, receive and output buffers are 256×2048 and are worked through in four
windows of 512 columns.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pairing of devices -/

set_option backward.proofsInPublic true in
/-- The device with the last mesh coordinate flipped. -/
def peer (c : Dev nD) : Dev nD :=
  ⟨(4 * (c.val / 4) + 2 * ((c.val / 2) % 2) + 1) - c.val % 2, by have := c.isLt; have h : nD = 8 := rfl; omega⟩

theorem peer_peer (c : Dev nD) : peer (peer c) = c := by revert c; decide
theorem peer_ne (c : Dev nD) : peer c ≠ c := by revert c; decide
theorem peer_parity (c : Dev nD) : (peer c).val % 2 = 1 - c.val % 2 := by revert c; decide

/-- The pairing as a permutation of the devices. -/
def pairing : Dev nD ≃ Dev nD := ⟨peer, peer, peer_peer, peer_peer⟩

/-- The signal and the four transfers all address the partner. -/
theorem target1 (c : Dev nD) : (⟨k0_dev1 c, k0_dev1_lt c⟩ : Dev nD) = peer c := Fin.ext (k0_dev1_eq c)
theorem target2 (c : Dev nD) : (⟨k0_dev2 c, k0_dev2_lt c⟩ : Dev nD) = peer c := Fin.ext (k0_dev2_eq c)
theorem target3 (c : Dev nD) : (⟨k0_dev3 c, k0_dev3_lt c⟩ : Dev nD) = peer c := Fin.ext (k0_dev3_eq c)
theorem target4 (c : Dev nD) : (⟨k0_dev4 c, k0_dev4_lt c⟩ : Dev nD) = peer c := Fin.ext (k0_dev4_eq c)
theorem target5 (c : Dev nD) : (⟨k0_dev5 c, k0_dev5_lt c⟩ : Dev nD) = peer c := Fin.ext (k0_dev5_eq c)

/-- The word of the last mesh coordinate, as the kernel computes it from its device id. -/
abbrev lastWord (c : Dev nD) : BitVec 32 := Scalar.remsi (Scalar.divsi (Dev.word c) 1#32) 2#32

/-- The kernel's first kind of branch is taken exactly on the even devices, -/
theorem branch_even (c : Dev nD) :
    (Scalar.cmpi .ne (Scalar.extui (Scalar.cmpi .eq (lastWord c) 0#32) : BitVec 32) 0#32 = 1#1) ↔ (c.val % 2 = 0) := by
  revert c; decide
/-- and the second kind exactly on the odd ones. -/
theorem branch_odd (c : Dev nD) :
    (Scalar.cmpi .ne (Scalar.extui (Scalar.cmpi .eq (lastWord c) 1#32) : BitVec 32) 0#32 = 1#1) ↔ (c.val % 2 = 1) := by
  revert c; decide

/-! ## Buffers and windows -/

abbrev xM : Memref sig .tc .vmem S512x512 .bf16 := Memref.whole cc0_stg0_0
abbrev yM : Memref sig .tc .vmem S512x2048 .bf16 := Memref.whole cc0_stg1_0
abbrev oM : Memref sig .tc .vmem S256x2048 .f32 := Memref.whole cc0_stg2_0
abbrev sM : Memref sig .tc .vmem S256x2048 .bf16 := Memref.whole cc0_scratch0
abbrev rM : Memref sig .tc .vmem S256x2048 .bf16 := Memref.whole cc0_scratch1

/-- The first column of the `k`-th window. -/
abbrev colAt : Fin 4 → ℕ
  | 0 => 0 | 1 => 512 | 2 => 1024 | 3 => 1536

theorem colAt_eq (k : Fin 4) : colAt k = 512 * k.val := by fin_cases k <;> rfl

theorem inb_win (k : Fin 4) : ∀ a, (![0, colAt k] : Fin 2 → ℕ) a + S256x512.size a ≤ S256x2048.size a := by
  fin_cases k <;> decide
theorem inb_dy (k : Fin 4) : ∀ a, (![0, colAt k] : Fin 2 → ℕ) a + S512x512.size a ≤ S512x2048.size a := by
  fin_cases k <;> decide

/-- The `k`-th window of a 256×2048 buffer: all rows, 512 columns. -/
abbrev winR (k : Fin 4) : Rect S256x2048 := Rect.unit (s := S256x2048) ![0, colAt k] S256x512.size (inb_win k)
/-- The same columns of the 512×2048 block of `dy`. -/
abbrev dyR (k : Fin 4) : Rect S512x2048 := Rect.unit (s := S512x2048) ![0, colAt k] S512x512.size (inb_dy k)

/-- The first column of each half of the block of `x`. -/
abbrev halfAt : Bool → ℕ
  | false => 0 | true => 256

theorem inb_half (b : Bool) : ∀ a, (![0, halfAt b] : Fin 2 → ℕ) a + S512x256.size a ≤ S512x512.size a := by
  cases b <;> decide

/-- A half of the columns of the block of `x`: 512×256. -/
abbrev xR (b : Bool) : Rect S512x512 := Rect.unit (s := S512x512) ![0, halfAt b] S512x256.size (inb_half b)

abbrev sWin (k : Fin 4) : Memref sig .tc .vmem S256x512 .bf16 := sM.slice (winR k) (fun _ => rfl)
abbrev rWin (k : Fin 4) : Memref sig .tc .vmem S256x512 .bf16 := rM.slice (winR k) (fun _ => rfl)
abbrev oWin (k : Fin 4) : Memref sig .tc .vmem S256x512 .f32 := oM.slice (winR k) (fun _ => rfl)

/-- The index of a 256×2048 buffer at row `p` and column `j` of window `k`. -/
theorem winR_emb (k : Fin 4) (j : S256x512.Idx) :
    (winR k).emb j = ix2 (n0 := 256) (n1 := 2048) ⟨(j 0).val, (j 0).isLt⟩
      ⟨512 * k.val + (j 1).val, by have h := (j 1).isLt; have := k.isLt; change _ < 512 at h; omega⟩ := by
  funext a
  apply Fin.ext
  match a with
  | ⟨0, _⟩ => show 0 + 1 * (j 0).val = (j 0).val; omega
  | ⟨1, _⟩ => show colAt k + 1 * (j 1).val = 512 * k.val + (j 1).val; rw [colAt_eq]; omega

/-- Two different windows share no element, -/
theorem win_disjoint (k k' : Fin 4) (h : k ≠ k') : Disjoint (winR k).set (winR k').set := by
  rw [Finset.disjoint_left]
  intro i hi hi'
  obtain ⟨j, rfl⟩ := (winR k).exists_idx_of_mem hi
  obtain ⟨j', hj'⟩ := (winR k').exists_idx_of_mem hi'
  change (winR k').emb j' = (winR k).emb j at hj'
  rw [winR_emb, winR_emb] at hj'
  have h1 := congrArg Fin.val (congrFun hj' 1)
  have b1 := (j 1).isLt; have b2 := (j' 1).isLt
  change _ < 512 at b1; change _ < 512 at b2
  change 512 * k'.val + (j' 1).val = 512 * k.val + (j 1).val at h1
  exact h (Fin.ext (by omega))

/-- The window an element lies in, and its place there. -/
def winOf (i : S256x2048.Idx) : Fin 4 := ⟨(i 1).val / 512, by have h := (i 1).isLt; change _ < 2048 at h; omega⟩
def inWin (i : S256x2048.Idx) : S256x512.Idx :=
  ix2 (n0 := 256) (n1 := 512) ⟨(i 0).val, (i 0).isLt⟩ ⟨(i 1).val % 512, Nat.mod_lt _ (by decide)⟩

theorem winOf_emb (k : Fin 4) (j : S256x512.Idx) : winOf ((winR k).emb j) = k := by
  rw [winR_emb]
  have h := (j 1).isLt; change _ < 512 at h
  apply Fin.ext
  show (512 * k.val + (j 1).val) / 512 = k.val
  omega
theorem inWin_emb (k : Fin 4) (j : S256x512.Idx) : inWin ((winR k).emb j) = j := by
  rw [winR_emb]
  have h := (j 1).isLt; change _ < 512 at h
  funext a
  apply Fin.ext
  match a with
  | ⟨0, _⟩ => rfl
  | ⟨1, _⟩ => show (512 * k.val + (j 1).val) % 512 = (j 1).val; omega
theorem emb_inWin (i : S256x2048.Idx) : (winR (winOf i)).emb (inWin i) = i := by
  rw [winR_emb]
  funext a
  apply Fin.ext
  match a with
  | ⟨0, _⟩ => rfl
  | ⟨1, _⟩ => show 512 * ((i 1).val / 512) + (i 1).val % 512 = (i 1).val; omega

/-- and the four windows make up the whole buffer. -/
theorem win_cover : (Finset.univ : Finset (Fin 4)).biUnion (fun k => (winR k).set) = Finset.univ := by
  ext i
  refine ⟨fun _ => Finset.mem_univ _, fun _ => Finset.mem_biUnion.mpr ⟨winOf i, Finset.mem_univ _, ?_⟩⟩
  have h : (winR (winOf i)).emb (inWin i) ∈ (winR (winOf i)).set := by
    rw [← Rect.map_emb_univ]; exact Finset.mem_map_of_mem _ (Finset.mem_univ _)
  rwa [emb_inWin] at h

/-! ## Semaphores -/

theorem inb_sem (k : Fin 4) : ∀ a, (![k.val] : Fin 1 → ℕ) a + S1.size a ≤ S4.size a := by fin_cases k <;> decide

abbrev semAt : Fin 4 → ℕ
  | 0 => 0 | 1 => 1 | 2 => 2 | 3 => 3
theorem inb_semAt (k : Fin 4) : ∀ a, (![semAt k] : Fin 1 → ℕ) a + S1.size a ≤ S4.size a := by fin_cases k <;> decide

/-- The runtime's barrier semaphore; the completion semaphores of the `k`-th window's transfer, at the sender
    and at the receiver. -/
abbrev barS : Sem sig := (SemArray.scalar (sig.barrier 0 rfl) : Sems sig S_).sem
abbrev sendS (k : Fin 4) : DmaSem sig :=
  ((cc0_scratch2.slice (Rect.unit (s := S4) ![semAt k] S1.size (inb_semAt k))).squeeze S_ squeezes_S1_S_).sem
abbrev recvS (k : Fin 4) : DmaSem sig :=
  ((cc0_scratch3.slice (Rect.unit (s := S4) ![semAt k] S1.size (inb_semAt k))).squeeze S_ squeezes_S1_S_).sem

theorem sendS_val (k : Fin 4) : (sendS k).val = 3 + k.val := by fin_cases k <;> decide
theorem recvS_val (k : Fin 4) : (recvS k).val = 7 + k.val := by fin_cases k <;> decide

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- The bytes one window's transfer pays each of its two semaphores. -/
abbrev N : ℕ := (rWin 0).view.dmaCredit
theorem N_pos : 0 < N := View.dmaCredit_pos _ (by decide)
theorem credit_recv (k : Fin 4) : (rWin k).view.dmaCredit = N := rfl
theorem credit_send (k : Fin 4) : (sWin k).view.dmaCredit = N := by fin_cases k <;> decide

/-! ## Values -/

variable (m : (ℓ : Loc nD τ sig) → Buf (Elt F) ℓ)

/-- The device's blocks of `x` and `dy`, as staged. -/
def xstg (c : Dev nD) : (cc0_stg0_0 : Ref sig .tc).ty.Contents (Elt F) :=
  (win0_0.blk (0 : Fin 1)).view.read (Elt F) (m ((c : Thread nD τ).loc main_arg0))
def ystg (c : Dev nD) : (cc0_stg1_0 : Ref sig .tc).ty.Contents (Elt F) :=
  (win0_1.blk (0 : Fin 1)).view.read (Elt F) (m ((c : Thread nD τ).loc main_arg1))

/-- What is sent: a partial product rounded to bf16; what is written: a partial product plus what arrived. -/
abbrev sendOf (u : Vec F S512x256 .bf16) (v : Vec F S512x512 .bf16) : FVec F S256x512 .bf16 := k0_pay5 u v
abbrev outOf (u : Vec F S512x256 .bf16) (v : Vec F S512x512 .bf16) (w : Vec F S256x512 .bf16) : FVec F S256x512 .f32 := k0_pay13 u v w

/-- Whether the device keeps the upper half of the rows of the result. -/
def keeps (c : Dev nD) : Bool := decide (c.val % 2 = 1)

theorem keeps_peer (c : Dev nD) : keeps (peer c) = !keeps c := by revert c; decide
theorem keeps_even {c : Dev nD} (h : c.val % 2 = 0) : keeps c = false := by unfold keeps; rw [h]; rfl
theorem keeps_odd {c : Dev nD} (h : c.val % 2 = 1) : keeps c = true := by unfold keeps; rw [h]; rfl

/-- A half of the staged block of `x`, and a window of the staged block of `dy`. -/
def xHalf (c : Dev nD) (b : Bool) : Vec F S512x256 .bf16 := xM.view.readAt (Elt F) (xR b).toLoadRect (xstg m c)
def yWin (c : Dev nD) (k : Fin 4) : Vec F S512x512 .bf16 := yM.view.readAt (Elt F) (dyR k).toLoadRect (ystg m c)

/-- The block device `c` sends its partner through window `k`: from the half of `x` it does not keep. -/
def sent (c : Dev nD) (k : Fin 4) : FVec F S256x512 .bf16 := sendOf (xHalf m c (!keeps c)) (yWin m c k)
/-- The block device `c` writes to window `k` of its result. -/
def summed (c : Dev nD) (k : Fin 4) : FVec F S256x512 .f32 := outOf (xHalf m c (keeps c)) (yWin m c k) (sent m (peer c) k)

/-- The whole result of device `c`. -/
def outAt (c : Dev nD) : (cc0_stg2_0 : Ref sig .tc).ty.Contents (Elt F) := fun i => summed m c (winOf i) (inWin i)

theorem outAt_emb (c : Dev nD) (k : Fin 4) (j : S256x512.Idx) : outAt m c ((winR k).emb j) = summed m c k j := by
  unfold outAt
  rw [winOf_emb, inWin_emb]

end Cert.KernelIdeal.Scatter

end
-- ==== Proof.Ideal.Protocol.lean ====
/-
The protocol of the reduce-scatter kernel: which semaphore is paid by whom, with what, and what each payment
hands over.

Every device has nine semaphores in play: the barrier, four that complete its outgoing transfers and four that
complete the incoming ones. Each is raised once and waited for once.

* The barrier of a device is raised by its partner, which thereby lends it the four windows of the partner's
  receive buffer.
* An outgoing semaphore is raised by the device's own transfer and returns the window of the send buffer.
* An incoming semaphore is raised by the partner's transfer and returns the window of the receive buffer,
  holding the block the partner sent.
-/
module

public import proofs.«01_k».proof.Proof.Ideal.Windows

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, both with one duty per cell and round -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The nine places of a device -/

/-- The barrier; the completion of outgoing transfer `k`; the completion of incoming transfer `k`. -/
abbrev Place : Type := Unit ⊕ (Fin 4 ⊕ Fin 4)

abbrev pBar : Place := .inl ()
abbrev pOut (k : Fin 4) : Place := .inr (.inl k)
abbrev pInn (k : Fin 4) : Place := .inr (.inr k)

/-- The semaphore of a place, -/
def semOf : Place → SemLoc sig
  | .inl _ => .reg barS
  | .inr (.inl k) => .dma (sendS k)
  | .inr (.inr k) => .dma (recvS k)

/-- and the place of a semaphore, if it is one of the nine. -/
def placeOf : SemLoc sig → Option Place
  | .reg s => if s = barS then some pBar else none
  | .dma q =>
      if h : q.val < 3 then none
      else if h' : q.val < 7 then some (pOut ⟨q.val - 3, by omega⟩)
      else some (pInn ⟨q.val - 7, by have h2 : q.val < 11 := q.isLt; omega⟩)

theorem placeOf_bar : placeOf (.reg barS) = some pBar := by unfold placeOf; exact if_pos rfl
theorem placeOf_send (k : Fin 4) : placeOf (.dma (sendS k)) = some (pOut k) := by fin_cases k <;> rfl
theorem placeOf_recv (k : Fin 4) : placeOf (.dma (recvS k)) = some (pInn k) := by fin_cases k <;> rfl
theorem placeOf_semOf (p : Place) : placeOf (semOf p) = some p := by
  rcases p with u | k | k
  · exact placeOf_bar
  · exact placeOf_send k
  · exact placeOf_recv k

theorem semOf_injective : Function.Injective semOf := fun p p' h => by
  have h2 := congrArg placeOf h
  rw [placeOf_semOf, placeOf_semOf] at h2
  exact Option.some.inj h2

abbrev cellAt (x : Dev nD × Place) : GSem nD τ sig := ((x.1 : Thread nD τ), semOf x.2)

theorem cellAt_injective : Function.Injective (cellAt : Dev nD × Place → GSem nD τ sig) := by
  rintro ⟨c, p⟩ ⟨c', p'⟩ h
  have h1 : c = c' := congrArg (fun g : GSem nD τ sig => g.1.1) h
  have h2 : p = p' := semOf_injective (congrArg Prod.snd h)
  rw [h1, h2]

/-! ## What is handed over -/

/-- A buffer's elements, at whatever contents. -/
def held {s : Shape} {e : EltTy} (c : Dev nD) (M : Memref sig .tc .vmem s e) : sProp 𝕄 :=
  iprop(∃ f : Buf (Elt F) (M.view.loc (c : Thread nD τ)), M.view.loc (c : Thread nD τ) ↦[M.view.set]{fullShare} f)

instance held_storable {s : Shape} {e : EltTy} (c : Dev nD) (M : Memref sig .tc .vmem s e) :
    BI.Storable (upEmb : UEmb _ 𝕄) (held (F := F) c M) := by unfold held; infer_instance

variable (m : (ℓ : Loc nD τ sig) → Buf (Elt F) ℓ)

/-- With the barrier: the partner's receive windows. -/
def barPay (c : Dev nD) : sProp 𝕄 := bigSep Finset.univ fun k : Fin 4 => held (F := F) (peer c) (rWin k)
/-- With an outgoing completion: the send window. -/
def outPay (c : Dev nD) (k : Fin 4) : sProp 𝕄 := held (F := F) c (sWin k)
/-- With an incoming completion: the receive window holding the partner's block. -/
def innPay (c : Dev nD) (k : Fin 4) : sProp 𝕄 := owns (c : Thread nD τ) (rWin k) fullShare (sent m (peer c) k)

instance barPay_storable (c : Dev nD) : BI.Storable (upEmb : UEmb _ 𝕄) (barPay (F := F) c) := by unfold barPay; infer_instance
instance outPay_storable (c : Dev nD) (k : Fin 4) : BI.Storable (upEmb : UEmb _ 𝕄) (outPay (F := F) c k) := by unfold outPay; infer_instance
instance innPay_storable (c : Dev nD) (k : Fin 4) : BI.Storable (upEmb : UEmb _ 𝕄) (innPay m c k) := by unfold innPay owns; infer_instance

def payOf (c : Dev nD) : Option Place → sProp 𝕄
  | none => iprop(emp)
  | some (.inl _) => barPay (F := F) c
  | some (.inr (.inl k)) => outPay (F := F) c k
  | some (.inr (.inr k)) => innPay m c k

instance payOf_storable (c : Dev nD) (p : Option Place) : BI.Storable (upEmb : UEmb _ 𝕄) (payOf m c p) := by
  unfold payOf; split <;> infer_instance

def amountOf : Option Place → ℕ
  | some (.inl _) => 1
  | _ => N

/-- The schedule: one round at each of the nine places of each device, with one payment. -/
def Rd : Rounds.Schedule (GSem nD τ sig) Unit 𝕄 where
  duties g r := if r = 0 ∧ g.1.2 = .tc ∧ (placeOf g.2).isSome then {()} else ∅
  unitless _ := False
  amount g _ _ := amountOf (placeOf g.2)
  payload g _ _ := payOf m g.1.1 (placeOf g.2)
  amount_pos g _ _ _ := by
    unfold amountOf
    split
    · exact Nat.one_pos
    · exact N_pos

instance Rd_payload_storable (g : GSem nD τ sig) (r : ℕ) (d : Unit) :
    BI.Storable (upEmb : UEmb _ 𝕄) ((Rd m).payload g r d) := payOf_storable m g.1.1 (placeOf g.2)

section Sched
variable (c : Dev nD) (k : Fin 4)

theorem duties_at (p : Place) : (Rd m).duties ((c : Thread nD τ), semOf p) 0 = {()} := by
  dsimp only [Rd]; rw [placeOf_semOf]; exact if_pos ⟨rfl, rfl, rfl⟩
theorem duties_later (g : GSem nD τ sig) : ∀ r, 1 ≤ r → (Rd m).duties g r = ∅ :=
  fun r hr => by dsimp only [Rd]; exact if_neg fun h => by omega
theorem amount_at (p : Place) (d : Unit) : (Rd m).amount ((c : Thread nD τ), semOf p) 0 d = amountOf (some p) := by
  dsimp only [Rd]; rw [placeOf_semOf]
theorem payload_at (p : Place) (d : Unit) : (Rd m).payload ((c : Thread nD τ), semOf p) 0 d = payOf m c (some p) := by
  dsimp only [Rd]; rw [placeOf_semOf]
theorem expect_at (p : Place) : (Rd m).expect ((c : Thread nD τ), semOf p) 0 = amountOf (some p) := by
  unfold Schedule.expect Schedule.amountOf; rw [duties_at, Finset.sum_singleton, amount_at]
/-- All of a place's round is its one payment. -/
theorem rest_at (p : Place) :
    bigSep ((Rd m).duties ((c : Thread nD τ), semOf p) 0 \ ∅) (fun d => (Rd m).payload ((c : Thread nD τ), semOf p) 0 d) = payOf m c (some p) := by
  rw [Finset.sdiff_empty, duties_at, bigSep_singleton, payload_at]

theorem duty_mem (p : Place) : () ∈ (Rd m).duties ((c : Thread nD τ), semOf p) 0 := by
  rw [duties_at]; exact Finset.mem_singleton_self _
theorem rest_bar : bigSep ((Rd m).duties (barCell c) 0 \ ∅) (fun d => (Rd m).payload (barCell c) 0 d) = barPay (F := F) c := rest_at m c pBar
theorem rest_out : bigSep ((Rd m).duties (sendCell c k) 0 \ ∅) (fun d => (Rd m).payload (sendCell c k) 0 d) = outPay (F := F) c k := rest_at m c (pOut k)
theorem rest_inn : bigSep ((Rd m).duties (recvCell c k) 0 \ ∅) (fun d => (Rd m).payload (recvCell c k) 0 d) = innPay m c k := rest_at m c (pInn k)

end Sched

/-! ## What each device owes, and the levels -/

/-- The last `n` transfers' credit, owed to the partner's incoming cells. -/
def debt (c : Dev nD) : ℕ → CellTallies nD τ sig Unit
  | 0 => 0
  | n + 1 => debt c n + tallyAt (recvCell (peer c) ⟨3 - n, by omega⟩) () N

/-- At launch a device owes its partner's four incoming cells a window's credit each, and its barrier one unit. -/
def O₀ (c : Dev nD) : CellTallies nD τ sig Unit := debt c 4 + tallyAt (barCell (peer c)) () 1

def L (g : GSem nD τ sig) : Finset Unit := if g.1.2 = .tc then {()} else ∅
/-- Barriers at 1, incoming completions at 2, everything else at 0. -/
def lv (g : GSem nD τ sig) (_ : Unit) : ℕ := match placeOf g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [placeOf_bar]
theorem lv_recv (c : Dev nD) (k : Fin 4) : lv (recvCell c k) () = 2 := by dsimp only [lv]; rw [placeOf_recv]

theorem debt_pos {c : Dev nD} : ∀ {n : ℕ} {g : GSem nD τ sig} {u : Unit}, 0 < debt c n g u → ∃ k, g = recvCell (peer c) k
  | 0, g, u, h => absurd h (Nat.lt_irrefl 0)
  | n + 1, g, u, h => by
      unfold debt at h
      rw [Pi.add_apply, Finsupp.add_apply, tallyAt_apply] at h
      by_cases hg : g = recvCell (peer c) ⟨3 - n, by omega⟩ ∧ u = ()
      · exact ⟨_, hg.1⟩
      · rw [if_neg hg, Nat.add_zero] at h
        exact debt_pos h

theorem O₀_pos {c : Dev nD} {g : GSem nD τ sig} {u : Unit} (h : 0 < O₀ c g u) :
    (∃ k, g = recvCell (peer c) k) ∨ g = barCell (peer c) := by
  unfold O₀ at h
  rw [Pi.add_apply, Finsupp.add_apply, tallyAt_apply] at h
  by_cases hg : g = barCell (peer c) ∧ u = ()
  · exact Or.inr hg.1
  · rw [if_neg hg, Nat.add_zero] at h
    exact Or.inl (debt_pos h)

/-- A staging transfer may be waited for at launch and after the kernel. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by
        rw [Finset.mem_singleton.mp hp]; dsimp only [lv]
        rw [show placeOf (.dma q) = none from by unfold placeOf; exact dif_pos hq])
      (fun g u hg => by
        rcases O₀_pos hg with ⟨k, rfl⟩ | rfl
        · rw [lv_recv]; decide
        · rw [lv_bar]; decide)
  · rw [MayWait_zero]; iintro -; iempintro

/-- At its barrier a device owes incoming completions only, which lie above it. -/
theorem mayWait_bar (c : Dev nD) : (levAts L lv : sProp 𝕄) ⊢ MayWait (c : Thread nD τ) (.reg barS) () (debt c 4) :=
  MayOwe.of_cut (L := L) (lev := lv) 1 (fun p hp => by rw [Finset.mem_singleton.mp hp, L_tc]; exact Finset.mem_singleton_self _)
    (fun g u hg => by obtain ⟨k, rfl⟩ := debt_pos hg; exact Finset.mem_singleton_self _)
    (fun p hp => by rw [Finset.mem_singleton.mp hp]; exact (lv_bar c).le)
    (fun g u hg => by obtain ⟨k, rfl⟩ := debt_pos hg; rw [lv_recv]; decide)

/-! ## What is known to all, and what each device holds -/

/-- Every cell's invariant, and that every cell has reached its round. -/
def records (K : Dev nD × Place → ℕ) : sProp 𝕄 :=
  iprop((bigSep Finset.univ fun x : Dev nD × Place => cellInv ER (Rd m) (K x) (cellAt x))
    ∗ bigSep Finset.univ fun x : Dev nD × Place => reached ER (cellAt x) 0)

instance records_persistent (K : Dev nD × Place → ℕ) : BI.Persistent (records m K) := by unfold records; infer_instance

theorem records_inv (K : Dev nD × Place → ℕ) (x : Dev nD × Place) : records m K ⊢ cellInv ER (Rd m) (K x) (cellAt x) := by
  unfold records
  exact sep_elim_left.trans (bigSep_elim (Φ := fun x : Dev nD × Place => (cellInv ER (Rd m) (K x) (cellAt x) : sProp 𝕄)) (Finset.mem_univ x))
theorem records_reached (K : Dev nD × Place → ℕ) (x : Dev nD × Place) : records m K ⊢ reached ER (cellAt x) 0 := by
  unfold records
  exact sep_elim_right.trans (bigSep_elim (Φ := fun x : Dev nD × Place => (reached ER (cellAt x) 0 : sProp 𝕄)) (Finset.mem_univ x))

/-- The tokens with which device `c` pays for its `k`-th transfer, at both ends. -/
def shipToks (c : Dev nD) (k : Fin 4) : sProp 𝕄 :=
  iprop(dutyTok ER (sendCell c k) 0 () ∗ dutyTok ER (recvCell (peer c) k) 0 ())

/-- The exchange's state device `c` starts from: its position at each of its places and the tokens it pays with. -/
def hand (c : Dev nD) : sProp 𝕄 :=
  iprop((bigSep Finset.univ fun p : Place => atPos ER (cellAt (c, p)) 0 ∅ 0)
    ∗ dutyTok ER (barCell (peer c)) 0 () ∗ bigSep Finset.univ fun k : Fin 4 => shipToks (F := F) c k)

/-- What device `c`'s body starts from, besides its buffers. -/
def start (c : Dev nD) : sProp 𝕄 :=
  iprop((∃ K, records m K ∗ hand (F := F) c) ∗ cred (tallyAt (barCell c) () 1)
    ∗ (bigSep Finset.univ fun k : Fin 4 => cred (tallyAt (recvCell c k) () N)) ∗ levAts L lv)

theorem bigSep_place (Φ : Place → sProp 𝕄) : bigSep Finset.univ Φ
    = iprop(Φ pBar ∗ (bigSep Finset.univ fun k => Φ (pOut k)) ∗ bigSep Finset.univ fun k => Φ (pInn k)) := by
  rw [bigSep_univ_sum, bigSep_univ_sum, bigSep_univ_of_subsingleton ()]
  rfl

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.KernelIdeal.Scatter

end
-- ==== Proof.Ideal.Rules.lean ====
/-
The steps of the kernel's body, one rule for each kind: the handshake on the barrier, filling a window of the send
buffer, shipping it to the partner, waiting for it to have left, waiting for the partner's window to have
arrived, and writing a window of the result. Each rule holds for any of the four windows.
-/
module

public import proofs.«01_k».proof.Proof.Ideal.Protocol

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ)

/-- The staged blocks of `x` and of `dy`, as the device holds them throughout. -/
def xPts (c : Dev nD) : sProp 𝕄 := ((c : Thread nD τ).loc cc0_stg0_0) ↦{fullShare} xstg m c
def yPts (c : Dev nD) : sProp 𝕄 := ((c : Thread nD τ).loc cc0_stg1_0) ↦{fullShare} ystg m c

/-- The weakest precondition of a program of device `c`. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- Owning a memref at some values is holding its elements. -/
theorem held_of_owns {s : Shape} {e : EltTy} (c : Dev nD) (M : Memref sig .tc .vmem s e) (X : s.Idx → Elt F e) :
    (owns (c : Thread nD τ) M fullShare X : sProp 𝕄) ⊢ held (F := F) c M := by
  unfold owns held
  iintro ⟨%f, -, H⟩
  iexists f
  iexact H

/-- A whole buffer is its four windows, and back. -/
theorem held_split {e : EltTy} (c : Dev nD) (M : Memref sig .tc .vmem S256x2048 e) :
    held (F := F) c M ⊢ bigSep Finset.univ fun k : Fin 4 => held (F := F) c (M.slice (winR k) (fun _ => rfl)) := by
  refine (show held (F := F) c M ⊢ iprop(∃ f : Buf (Elt F) (M.view.loc (c : Thread nD τ)), M.view.loc (c : Thread nD τ) ↦[M.view.set]{fullShare} f)
    from BI.Entails.refl _).trans ?_
  iintro ⟨%f, H⟩
  ihave H' := (Entails.of_eq (pointsTo_rects (Ix := Unit) (Name := ℕ) (U := UU) (Lvl := ℕ) (c : Thread nD τ) M fullShare winR (fun _ _ => rfl) win_disjoint win_cover f)) $$ H
  iapply (show (bigSep Finset.univ fun k : Fin 4 => (owns (c : Thread nD τ) (M.slice (winR k) (fun _ => rfl)) fullShare
        (fun j => M.view.read (Elt F) f ((winR k).emb j)) : sProp 𝕄)) ⊢ bigSep Finset.univ fun k : Fin 4 => held (F := F) c (M.slice (winR k) (fun _ => rfl))
    from bigSep_mono fun k _ => held_of_owns (F := F) c (M.slice (winR k) (fun _ => rfl)) _) $$ H'

instance elt_nonempty : ∀ e, Nonempty (Elt F e) := Elt.nonempty F

/-- The four windows of a buffer, at given values, are the buffer at those values. -/
theorem owns_join {e : EltTy} (c : Dev nD) (M : Memref sig .tc .vmem S256x2048 e) (X : S256x2048.Idx → Elt F e) :
    (bigSep Finset.univ fun k : Fin 4 => (owns (c : Thread nD τ) (M.slice (winR k) (fun _ => rfl)) fullShare (fun j => X ((winR k).emb j)) : sProp 𝕄))
      ⊢ owns (c : Thread nD τ) M fullShare X :=
  owns_of_rects (c : Thread nD τ) M fullShare winR (fun _ _ => rfl) win_disjoint win_cover X

theorem owns_of_held {s : Shape} {e : EltTy} (c : Dev nD) (M : Memref sig .tc .vmem s e) :
    held (F := F) c M ⊢ iprop(∃ X, owns (c : Thread nD τ) M fullShare X) := by
  unfold held
  iintro ⟨%f, H⟩
  iexists (M.view.read (Elt F) f)
  iapply (owns_intro (c : Thread nD τ) M fullShare f) $$ H

theorem held_join {e : EltTy} (c : Dev nD) (M : Memref sig .tc .vmem S256x2048 e) :
    (bigSep Finset.univ fun k : Fin 4 => held (F := F) c (M.slice (winR k) (fun _ => rfl))) ⊢ held (F := F) c M := by
  iintro H
  ihave H1 := (show (bigSep Finset.univ fun k : Fin 4 => held (F := F) c (M.slice (winR k) (fun _ => rfl)))
      ⊢ bigSep Finset.univ fun k : Fin 4 => (iprop(∃ X, owns (c : Thread nD τ) (M.slice (winR k) (fun _ => rfl)) fullShare X) : sProp 𝕄)
    from bigSep_mono fun k _ => owns_of_held (F := F) c (M.slice (winR k) (fun _ => rfl))) $$ H
  ihave H2 := (BI.bigSep_exists_pi Finset.univ (fun (k : Fin 4) X => (owns (c : Thread nD τ) (M.slice (winR k) (fun _ => rfl)) fullShare X : sProp 𝕄))) $$ H1
  icases H2 with ⟨%X, H2⟩
  iapply (held_of_owns (F := F) c M fun i => X (winOf i) (inWin i))
  iapply (owns_join c M)
  have hX : ∀ k : Fin 4, (fun j => (fun i => X (winOf i) (inWin i)) ((winR k).emb j)) = X k := fun k => funext fun j => by
    show X (winOf ((winR k).emb j)) (inWin ((winR k).emb j)) = X k j
    rw [winOf_emb, inWin_emb]
  simp only [hX]
  iexact H2

section Steps

variable (K : Dev nD × Place → ℕ) (c : Dev nD)

/-- Raising the partner's barrier: the device lends it its four receive windows. -/
theorem wp_raise_bar {n : Dev nD} (hn : n = peer c) {kont : PUnit → Prog (TpuEff nD τ sig (Elt F) Λ₀ .tc) PUnit} {Q : PUnit → sProp 𝕄} (W : Waits sig Unit) :
    iprop(records m K ∗ owes (c : Thread nD τ) (O₀ c) W ∗ dutyTok ER (barCell (peer c)) 0 ()
        ∗ bigSep Finset.univ fun k : Fin 4 => held (F := F) c (rWin k))
      ⊢ iprop((owes (c : Thread nD τ) (debt c 4) W -∗ runs c (kont ⟨⟩) Q)
          -∗ runs c (.op (.semSignal (n : Thread nD τ) barS 1) kont) Q) := by
  subst hn
  iintro ⟨#HR, HO, Ht, Hw⟩ Hk
  iapply (Rounds.wp_signal 𝒱₀ ER (Rd m) (c : Thread nD τ) none (dst := (peer c : Thread nD τ)) (κ := K (peer c, pBar)) (r := 0)
      (d := ()) (duty_mem m (peer c) pBar)
      (amount_at m (peer c) pBar ()) () (debt c 4) rfl) $$ [HO Ht Hw]
  · isplitr; · iapply (records_inv m K (peer c, pBar)); iexact HR
    isplitl [HO]; · iexact HO
    isplitl [Ht]; · iexact Ht
    isplitl [Hw]
    · iapply (Entails.of_eq (show barPay (F := F) (peer c) = (Rd m).payload (barCell (peer c)) 0 () from (payload_at m (peer c) pBar ()).symm))
      unfold barPay
      rw [peer_peer]
      iexact Hw
    iapply (records_reached m K (peer c, pBar)); iexact HR
  iexact Hk

/-- Waiting at the own barrier: the partner's four receive windows come with it. -/
theorem wp_wait_bar {kont : PUnit → Prog (TpuEff nD τ sig (Elt F) Λ₀ .tc) PUnit} {Q : PUnit → sProp 𝕄} (W : Waits sig Unit) :
    iprop(records m K ∗ levAts L lv ∗ cred (tallyAt (barCell c) () 1) ∗ owes (c : Thread nD τ) (debt c 4) W ∗ atPos ER (barCell c) 0 ∅ 0)
      ⊢ iprop(((∃ W, owes (c : Thread nD τ) (debt c 4) W) ∗ semVal (barCell c) 0
            ∗ (bigSep Finset.univ fun k : Fin 4 => held (F := F) (peer c) (rWin k)) -∗ runs c (kont ⟨⟩) Q)
          -∗ runs c (.op (.semWait barS 1) kont) Q) := by
  iintro ⟨#HR, #HL, Hc, HO, Ha⟩ Hk
  iapply (Rounds.wp_wait_rest_token 𝒱₀ ER (Rd m) (c : Thread nD τ) none (κ := K (c, pBar))
      (wpE_semWait_eq 𝒱₀ (c : Thread nD τ) none Set.univ) (Set.mem_univ _) () (O := debt c 4) (W := W) (R := 0) (m := 0) (T := ∅)
      (expect_at m c pBar).symm) $$ [Hc HO Ha]
  · isplitr; · iapply (records_inv m K (c, pBar)); iexact HR
    isplitl [Hc]; · iexact Hc
    isplitl [HO]; · iexact HO
    isplitr; · iapply (mayWait_bar c); iexact HL
    iexact Ha
  iintro ⟨HO, Ha, -, Hp⟩
  ihave Hp := (Entails.of_eq (rest_bar m c)) $$ Hp
  imod (Rounds.cell_close ER (Rd m) (Set.mem_univ (K (c, pBar))) (fun h => h) (R := 0 + 1) (duties_later m (barCell c))) $$ [Ha] with Hz
  · isplitr; · iapply (records_inv m K (c, pBar)); iexact HR
    iexact Ha
  iapply Hk
  isplitl [HO]; · iexists _; iexact HO
  isplitl [Hz]; · iexact Hz
  unfold barPay
  iexact Hp

/-- Filling window `k` of the send buffer: two loads, a load whose value is not used, and a store. -/
theorem wp_fill (k : Fin 4) (b : Bool) (hb : (!keeps c) = b) {h1 h2 h3 h4 h5} {kont : PUnit → Prog (TpuEff nD τ sig (Elt F) Λ₀ .tc) PUnit} {Q : PUnit → sProp 𝕄} :
    iprop(xPts m c ∗ yPts m c ∗ held (F := F) c (sWin k))
      ⊢ iprop((xPts m c ∗ yPts m c ∗ owns (c : Thread nD τ) (sWin k) fullShare (sent m c k) -∗ runs c (kont ⟨⟩) Q)
          -∗ runs c (.op (.load xM (xR b).toLoadRect h1) fun u => .op (.load yM (dyR k).toLoadRect h2) fun v =>
                .op (.load sM (winR k).toLoadRect h3) fun _ => .op (.store sM (winR k) (sendOf u v) Finset.univ h4 h5) kont) Q) := by
  subst hb
  unfold xPts yPts held
  iintro ⟨Hx, Hy, ⟨%f, Hs⟩⟩ Hk
  iapply (wp_load 𝒱₀ (c : Thread nD τ) none Set.univ (m := xM) (Finset.subset_univ _)) $$ Hx; iintro Hx
  iapply (wp_load 𝒱₀ (c : Thread nD τ) none Set.univ (m := yM) (Finset.subset_univ _)) $$ Hy; iintro Hy
  iapply (wp_load_rect 𝒱₀ (c : Thread nD τ) none Set.univ (m := sM) (r := winR k) (S := (sWin k).view.set) (Finset.Subset.refl _)) $$ Hs; iintro Hs
  iapply (wp_store 𝒱₀ (c : Thread nD τ) none Set.univ (m := sM) (r := winR k) (Mk := Finset.univ) (S := (sWin k).view.set) (Finset.Subset.refl _)) $$ Hs; iintro Hs
  iapply Hk
  isplitl [Hx]; · iexact Hx
  isplitl [Hy]; · iexact Hy
  unfold owns
  iexists _
  isplitr
  rotate_left
  · iexact Hs
  · ipureintro
    exact View.read_write_univ (v := (sWin k).view) _ _

/-- Shipping window `k`: the send window and the partner's receive window go with the transfer, and the debt to
    the partner's incoming cell is paid. -/
theorem wp_ship (k : Fin 4) {n : Dev nD} (hn : n = peer c) (j : ℕ) (hj : (⟨3 - j, by omega⟩ : Fin 4) = k)
    {hsc} {hsrc : (sWin k).view.WordExact} {hdst : (rWin k).view.WordExact} {hsem}
    {kont : PUnit → Prog (TpuEff nD τ sig (Elt F) Λ₀ .tc) PUnit} {Q : PUnit → sProp 𝕄} :
    iprop(records m K ∗ owns (c : Thread nD τ) (sWin k) fullShare (sent m c k) ∗ held (F := F) (peer c) (rWin k)
        ∗ (∃ W, owes (c : Thread nD τ) (debt c (j + 1)) W) ∗ shipToks (F := F) c k)
      ⊢ iprop((cred (tallyAt (sendCell c k) () N) ∗ (∃ W, owes (c : Thread nD τ) (debt c j) W) -∗ runs c (kont ⟨⟩) Q)
          -∗ runs c (.op (.enqueueDma (sWin k) (.remote (Dev.tc n : Thread nD τ) (rWin k) (.dma (sendS k)) hsc) (.dma (recvS k)) hsrc hdst hsem) kont) Q) := by
  subst hn
  unfold owns held shipToks
  iintro ⟨#HR, ⟨%f, %hf, Hs⟩, ⟨%g, Hr⟩, ⟨%W, HO⟩, Ht1, Ht2⟩ Hk
  iapply (Rounds.wp_send_pointsTo 𝒱₀ ER (Rd m) (c : Thread nD τ) none (κ₁ := K (c, pOut k)) (κ₂ := K (peer c, pInn k))
    (r₁ := 0) (r₂ := 0) (d₁ := ()) (d₂ := ()) (fd := g)
    (duty_mem m c (pOut k))
    (duty_mem m (peer c) (pInn k))
    () () N (show (rWin k).view.amount (.dma (recvS k)) = N from credit_recv k) (amount_at m c (pOut k) ()) (amount_at m (peer c) (pInn k) ()) (debt c j)
    (by rw [← hj]) (W := W)
    ((show _ ⊢ outPay (F := F) c k from by unfold outPay held; iintro H; iexists f; iexact H).trans
      (Entails.of_eq (payload_at m c (pOut k) ()).symm))
    ((show _ ⊢ innPay m (peer c) k from by
        unfold innPay owns
        rw [peer_peer]
        iintro H
        iexists _
        isplitr
        rotate_left
        · iexact H
        · ipureintro
          exact (View.read_write_univ (v := (rWin k).view) _ _).trans hf).trans
      (Entails.of_eq (payload_at m (peer c) (pInn k) ()).symm))) $$ [Hs Hr HO Ht1 Ht2]
  · isplitr; · iapply (records_inv m K (c, pOut k)); iexact HR
    isplitr; · iapply (records_inv m K (peer c, pInn k)); iexact HR
    isplitl [Hs]; · iexact Hs
    isplitl [Hr]; · iexact Hr
    isplitl [HO]; · iexact HO
    isplitl [Ht1]; · iexact Ht1
    isplitr; · iapply (records_reached m K (c, pOut k)); iexact HR
    isplitl [Ht2]; · iexact Ht2
    iapply (records_reached m K (peer c, pInn k)); iexact HR
  iintro ⟨Hc, HO⟩
  iapply Hk
  isplitl [Hc]; · iexact Hc
  iexists W; iexact HO

/-- Waiting for window `k` to have left: the send window is the device's again, and the semaphore closes. -/
theorem wp_wait_out (k : Fin 4) {h1 h2}
    {kont : PUnit → Prog (TpuEff nD τ sig (Elt F) Λ₀ .tc) PUnit} {Q : PUnit → sProp 𝕄} :
    iprop(records m K ∗ cred (tallyAt (sendCell c k) () N) ∗ (∃ W, owes (c : Thread nD τ) 0 W) ∗ atPos ER (sendCell c k) 0 ∅ 0)
      ⊢ iprop(((∃ W, owes (c : Thread nD τ) 0 W) ∗ semVal (sendCell c k) 0 ∗ held (F := F) c (sWin k) -∗ runs c (kont ⟨⟩) Q)
          -∗ runs c (.op (TpuEff.waitDma2 (p := .tc) (sendS k) (rWin k) (sWin k) h1 h2) kont) Q) := by
  iintro ⟨#HR, Hc, ⟨%W, HO⟩, Ha⟩ Hk
  iapply (Rounds.wp_wait_rest_token 𝒱₀ ER (Rd m) (c : Thread nD τ) none (κ := K (c, pOut k))
      (wpE_waitDma2_eq 𝒱₀ (c : Thread nD τ) none Set.univ) (Set.mem_univ _) () (O := 0) (W := W) (R := 0) (m := 0) (T := ∅)
      ((Nat.zero_add _).trans ((credit_send k).trans (expect_at m c (pOut k)).symm))) $$ [Hc HO Ha]
  · isplitr; · iapply (records_inv m K (c, pOut k)); iexact HR
    isplitl [Hc]; · rw [credit_send]; iexact Hc
    isplitl [HO]; · iexact HO
    isplitr; · rw [MayWait_zero]; iempintro
    iexact Ha
  iintro ⟨HO, Ha, -, Hp⟩
  ihave Hp := (Entails.of_eq (rest_out m c k)) $$ Hp
  imod (Rounds.cell_close ER (Rd m) (Set.mem_univ (K (c, pOut k))) (fun h => h) (R := 0 + 1) (duties_later m (sendCell c k))) $$ [Ha] with Hz
  · isplitr; · iapply (records_inv m K (c, pOut k)); iexact HR
    iexact Ha
  iapply Hk
  isplitl [HO]; · iexists _; iexact HO
  isplitl [Hz]; · iexact Hz
  unfold outPay
  iexact Hp

/-- Waiting for the partner's window `k`: the receive window comes back holding its block, and the semaphore closes. -/
theorem wp_wait_inn (k : Fin 4) {h1 h2}
    {kont : PUnit → Prog (TpuEff nD τ sig (Elt F) Λ₀ .tc) PUnit} {Q : PUnit → sProp 𝕄} :
    iprop(records m K ∗ cred (tallyAt (recvCell c k) () N) ∗ (∃ W, owes (c : Thread nD τ) 0 W) ∗ atPos ER (recvCell c k) 0 ∅ 0)
      ⊢ iprop(((∃ W, owes (c : Thread nD τ) 0 W) ∗ semVal (recvCell c k) 0 ∗ owns (c : Thread nD τ) (rWin k) fullShare (sent m (peer c) k) -∗ runs c (kont ⟨⟩) Q)
          -∗ runs c (.op (TpuEff.waitDma2 (p := .tc) (recvS k) (sWin k) (rWin k) h1 h2) kont) Q) := by
  iintro ⟨#HR, Hc, ⟨%W, HO⟩, Ha⟩ Hk
  iapply (Rounds.wp_wait_rest_token 𝒱₀ ER (Rd m) (c : Thread nD τ) none (κ := K (c, pInn k))
      (wpE_waitDma2_eq 𝒱₀ (c : Thread nD τ) none Set.univ) (Set.mem_univ _) () (O := 0) (W := W) (R := 0) (m := 0) (T := ∅)
      ((Nat.zero_add _).trans ((credit_recv k).trans (expect_at m c (pInn k)).symm))) $$ [Hc HO Ha]
  · isplitr; · iapply (records_inv m K (c, pInn k)); iexact HR
    isplitl [Hc]; · iexact Hc
    isplitl [HO]; · iexact HO
    isplitr; · rw [MayWait_zero]; iempintro
    iexact Ha
  iintro ⟨HO, Ha, -, Hp⟩
  ihave Hp := (Entails.of_eq (rest_inn m c k)) $$ Hp
  imod (Rounds.cell_close ER (Rd m) (Set.mem_univ (K (c, pInn k))) (fun h => h) (R := 0 + 1) (duties_later m (recvCell c k))) $$ [Ha] with Hz
  · isplitr; · iapply (records_inv m K (c, pInn k)); iexact HR
    iexact Ha
  iapply Hk
  isplitl [HO]; · iexists _; iexact HO
  isplitl [Hz]; · iexact Hz
  unfold innPay
  iexact Hp

/-- Writing window `k` of the result: three loads, a load whose value is not used, and a store. -/
theorem wp_emit (k : Fin 4) (b : Bool) (hb : keeps c = b) {h1 h2 h3 h4 h5 h6} {kont : PUnit → Prog (TpuEff nD τ sig (Elt F) Λ₀ .tc) PUnit} {Q : PUnit → sProp 𝕄} :
    iprop(xPts m c ∗ yPts m c ∗ owns (c : Thread nD τ) (rWin k) fullShare (sent m (peer c) k) ∗ held (F := F) c (oWin k))
      ⊢ iprop((xPts m c ∗ yPts m c ∗ held (F := F) c (rWin k) ∗ owns (c : Thread nD τ) (oWin k) fullShare (summed m c k) -∗ runs c (kont ⟨⟩) Q)
          -∗ runs c (.op (.load xM (xR b).toLoadRect h1) fun u => .op (.load yM (dyR k).toLoadRect h2) fun v =>
                .op (.load rM (winR k).toLoadRect h3) fun w => .op (.load oM (winR k).toLoadRect h4) fun _ =>
                .op (.store oM (winR k) (outOf u v w) Finset.univ h5 h6) kont) Q) := by
  subst hb
  unfold xPts yPts owns held
  iintro ⟨Hx, Hy, ⟨%g, %hg, Hr⟩, ⟨%f, Ho⟩⟩ Hk
  iapply (wp_load 𝒱₀ (c : Thread nD τ) none Set.univ (m := xM) (Finset.subset_univ _)) $$ Hx; iintro Hx
  iapply (wp_load 𝒱₀ (c : Thread nD τ) none Set.univ (m := yM) (Finset.subset_univ _)) $$ Hy; iintro Hy
  iapply (wp_load_rect 𝒱₀ (c : Thread nD τ) none Set.univ (m := rM) (r := winR k) (S := (rWin k).view.set) (Finset.Subset.refl _)) $$ Hr; iintro Hr
  rw [show (rM.access (winR k)).read (Elt F) g = sent m (peer c) k from hg]
  iapply (wp_load_rect 𝒱₀ (c : Thread nD τ) none Set.univ (m := oM) (r := winR k) (S := (oWin k).view.set) (Finset.Subset.refl _)) $$ Ho; iintro Ho
  iapply (wp_store 𝒱₀ (c : Thread nD τ) none Set.univ (m := oM) (r := winR k) (Mk := Finset.univ) (S := (oWin k).view.set) (Finset.Subset.refl _)) $$ Ho; iintro Ho
  iapply Hk
  isplitl [Hx]; · iexact Hx
  isplitl [Hy]; · iexact Hy
  isplitl [Hr]; · iexists g; iexact Hr
  iexists _
  isplitr
  rotate_left
  · iexact Ho
  · ipureintro
    exact View.read_write_univ (v := (oWin k).view) _ _

end Steps

end Cert.KernelIdeal.Scatter

end
-- ==== Proof.Ideal.Body.lean ====
/-
The kernel's body on one device: from the state it starts from to the finished result, one rule per step.
-/
module

public import proofs.«01_k».proof.Proof.Ideal.Rules

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the body runs from: the exchange's state, the buffers, and what it owes. -/
def bodyPre (K : Dev nD × Place → ℕ) (c : Dev nD) : sProp 𝕄 :=
  iprop(records m K ∗ hand (F := F) c ∗ cred (tallyAt (barCell c) () 1)
    ∗ (bigSep Finset.univ fun k : Fin 4 => cred (tallyAt (recvCell c k) () N)) ∗ levAts L lv
    ∗ held (F := F) c sM ∗ held (F := F) c rM ∗ (∃ W, owes (c : Thread nD τ) (O₀ c) W)
    ∗ xPts m c ∗ yPts m c ∗ held (F := F) c oM)

/-- What it ends with: its send and receive buffers, all nine semaphores at zero, nothing owed, and the result. -/
def bodyPost (c : Dev nD) : sProp 𝕄 :=
  iprop(held (F := F) c sM ∗ held (F := F) c rM ∗ semVal (barCell c) 0
    ∗ (bigSep Finset.univ fun k : Fin 4 => semVal (sendCell c k) 0) ∗ (bigSep Finset.univ fun k : Fin 4 => semVal (recvCell c k) 0)
    ∗ (∃ W, owes (c : Thread nD τ) 0 W) ∗ xPts m c ∗ yPts m c ∗ owns (c : Thread nD τ) oM fullShare (outAt m c))

set_option maxHeartbeats 1600000 in
/-- The body, from what it starts with to what it ends with: the handshake, four windows filled and shipped, four
    windows awaited and written. -/
theorem sound_body (K : Dev nD × Place → ℕ) (c : Dev nD) (Q : PUnit → sProp 𝕄) :
    iprop(bodyPre m K c ∗ (bodyPost m c -∗ Q ⟨⟩))
      ⊢ runs c (cc0_body xM (Memref.isWhole_whole _) yM (Memref.isWhole_whole _) oM (Memref.isWhole_whole _)
            sM (Memref.isWhole_whole _) rM (Memref.isWhole_whole _) cc0_scratch2 cc0_scratch3) Q := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, runs, wp_deviceId]
  have he := branch_even c
  have ho := branch_odd c
  simp only [lastWord] at he ho
  have hc : (c.val % 2 = 0 ∧ keeps c = false) ∨ (c.val % 2 = 1 ∧ keeps c = true) := by
    rcases Nat.mod_two_eq_zero_or_one c.val with h | h
    · exact Or.inl ⟨h, keeps_even h⟩
    · exact Or.inr ⟨h, keeps_odd h⟩
  unfold bodyPre hand
  rw [bigSep_place, bigSep_four (fun k => atPos ER (cellAt (c, pOut k)) 0 ∅ 0), bigSep_four (fun k => atPos ER (cellAt (c, pInn k)) 0 ∅ 0),
    bigSep_four (fun k => shipToks (F := F) c k), bigSep_four (fun k => cred (tallyAt (recvCell c k) () N))]
  iintro ⟨⟨#HR, ⟨⟨HaB, ⟨Ha0, Ha1, Ha2, Ha3⟩, Hb0, Hb1, Hb2, Hb3⟩, HtB, Ht0, Ht1, Ht2, Ht3⟩, HcB, ⟨Hd0, Hd1, Hd2, Hd3⟩, #HL, Hs, Hr, ⟨%W, HO⟩, Hx, Hy, Ho⟩, Hk⟩
  ihave Hs := (held_split (F := F) c sM) $$ Hs
  ihave Hr := (held_split (F := F) c rM) $$ Hr
  ihave Ho := (held_split (F := F) c oM) $$ Ho
  ihave Hs := (Entails.of_eq (bigSep_four (F := F) _)) $$ Hs
  ihave Ho := (Entails.of_eq (bigSep_four (F := F) _)) $$ Ho
  icases Hs with ⟨Hs0, Hs1, Hs2, Hs3⟩
  icases Ho with ⟨Ho0, Ho1, Ho2, Ho3⟩
  rcases hc with ⟨hz, hk⟩ | ⟨hz, hk⟩
  case' inl =>
    simp only [dif_pos (he.mpr hz), dif_neg ((not_congr ho).mpr (show ¬ c.val % 2 = 1 by omega)), Prog.bind_op, Prog.bind_ret]
    have fill := fun k : Fin 4 => @wp_fill F _ m c k true (by rw [hk]; rfl)
    have emit := fun k : Fin 4 => @wp_emit F _ m c k false hk
  case' inr =>
    simp only [dif_pos (ho.mpr hz), dif_neg ((not_congr he).mpr (show ¬ c.val % 2 = 0 by omega)), Prog.bind_op, Prog.bind_ret]
    have fill := fun k : Fin 4 => @wp_fill F _ m c k false (by rw [hk]; rfl)
    have emit := fun k : Fin 4 => @wp_emit F _ m c k true hk
  all_goals
    iapply (wp_raise_bar m K c (target1 c) W) $$ [HO HtB Hr]
    · isplitr; · iexact HR
      isplitl [HO]; · iexact HO
      isplitl [HtB] <;> iassumption
    iintro HO
    iapply (wp_wait_bar m K c W) $$ [HcB HO HaB]
    · isplitr; · iexact HR
      isplitr; · iexact HL
      isplitl [HcB]; · iexact HcB
      isplitl [HO]; · iexact HO
      iexact HaB
    iintro ⟨HO, HzB, Hp⟩
    ihave Hp := (Entails.of_eq (bigSep_four (F := F) _)) $$ Hp
    icases Hp with ⟨Hp0, Hp1, Hp2, Hp3⟩
    iapply (fill 0) $$ [Hx Hy Hs0]
    · isplitl [Hx]; · iexact Hx
      isplitl [Hy] <;> iassumption
    iintro ⟨Hx, Hy, Hs0⟩
    iapply (wp_ship m K c 0 (target2 c) 3 rfl) $$ [Hs0 Hp0 HO Ht0]
    · isplitr; · iexact HR
      isplitl [Hs0]; · iexact Hs0
      isplitl [Hp0]; · iexact Hp0
      isplitl [HO]; · iexact HO
      iexact Ht0
    iintro ⟨Hc0, HO⟩
    iapply (fill 1) $$ [Hx Hy Hs1]
    · isplitl [Hx]; · iexact Hx
      isplitl [Hy] <;> iassumption
    iintro ⟨Hx, Hy, Hs1⟩
    iapply (wp_ship m K c 1 (target3 c) 2 rfl) $$ [Hs1 Hp1 HO Ht1]
    · isplitr; · iexact HR
      isplitl [Hs1]; · iexact Hs1
      isplitl [Hp1]; · iexact Hp1
      isplitl [HO]; · iexact HO
      iexact Ht1
    iintro ⟨Hc1, HO⟩
    iapply (fill 2) $$ [Hx Hy Hs2]
    · isplitl [Hx]; · iexact Hx
      isplitl [Hy] <;> iassumption
    iintro ⟨Hx, Hy, Hs2⟩
    iapply (wp_ship m K c 2 (target4 c) 1 rfl) $$ [Hs2 Hp2 HO Ht2]
    · isplitr; · iexact HR
      isplitl [Hs2]; · iexact Hs2
      isplitl [Hp2]; · iexact Hp2
      isplitl [HO]; · iexact HO
      iexact Ht2
    iintro ⟨Hc2, HO⟩
    iapply (fill 3) $$ [Hx Hy Hs3]
    · isplitl [Hx]; · iexact Hx
      isplitl [Hy] <;> iassumption
    iintro ⟨Hx, Hy, Hs3⟩
    iapply (wp_ship m K c 3 (target5 c) 0 rfl) $$ [Hs3 Hp3 HO Ht3]
    · isplitr; · iexact HR
      isplitl [Hs3]; · iexact Hs3
      isplitl [Hp3]; · iexact Hp3
      isplitl [HO]; · iexact HO
      iexact Ht3
    iintro ⟨Hc3, HO⟩
    iapply (wp_wait_out m K c 0) $$ [Hc0 HO Ha0]
    · isplitr; · iexact HR
      isplitl [Hc0]; · iexact Hc0
      isplitl [HO]; · iexact HO
      iexact Ha0
    iintro ⟨HO, Hz0, Hs0⟩
    iapply (wp_wait_inn m K c 0) $$ [Hd0 HO Hb0]
    · isplitr; · iexact HR
      isplitl [Hd0]; · iexact Hd0
      isplitl [HO]; · iexact HO
      iexact Hb0
    iintro ⟨HO, Hv0, Hr0⟩
    iapply (emit 0) $$ [Hx Hy Hr0 Ho0]
    · isplitl [Hx]; · iexact Hx
      isplitl [Hy]; · iexact Hy
      isplitl [Hr0] <;> iassumption
    iintro ⟨Hx, Hy, Hr0, Ho0⟩
    iapply (wp_wait_out m K c 1) $$ [Hc1 HO Ha1]
    · isplitr; · iexact HR
      isplitl [Hc1]; · iexact Hc1
      isplitl [HO]; · iexact HO
      iexact Ha1
    iintro ⟨HO, Hz1, Hs1⟩
    iapply (wp_wait_inn m K c 1) $$ [Hd1 HO Hb1]
    · isplitr; · iexact HR
      isplitl [Hd1]; · iexact Hd1
      isplitl [HO]; · iexact HO
      iexact Hb1
    iintro ⟨HO, Hv1, Hr1⟩
    iapply (emit 1) $$ [Hx Hy Hr1 Ho1]
    · isplitl [Hx]; · iexact Hx
      isplitl [Hy]; · iexact Hy
      isplitl [Hr1] <;> iassumption
    iintro ⟨Hx, Hy, Hr1, Ho1⟩
    iapply (wp_wait_out m K c 2) $$ [Hc2 HO Ha2]
    · isplitr; · iexact HR
      isplitl [Hc2]; · iexact Hc2
      isplitl [HO]; · iexact HO
      iexact Ha2
    iintro ⟨HO, Hz2, Hs2⟩
    iapply (wp_wait_inn m K c 2) $$ [Hd2 HO Hb2]
    · isplitr; · iexact HR
      isplitl [Hd2]; · iexact Hd2
      isplitl [HO]; · iexact HO
      iexact Hb2
    iintro ⟨HO, Hv2, Hr2⟩
    iapply (emit 2) $$ [Hx Hy Hr2 Ho2]
    · isplitl [Hx]; · iexact Hx
      isplitl [Hy]; · iexact Hy
      isplitl [Hr2] <;> iassumption
    iintro ⟨Hx, Hy, Hr2, Ho2⟩
    iapply (wp_wait_out m K c 3) $$ [Hc3 HO Ha3]
    · isplitr; · iexact HR
      isplitl [Hc3]; · iexact Hc3
      isplitl [HO]; · iexact HO
      iexact Ha3
    iintro ⟨HO, Hz3, Hs3⟩
    iapply (wp_wait_inn m K c 3) $$ [Hd3 HO Hb3]
    · isplitr; · iexact HR
      isplitl [Hd3]; · iexact Hd3
      isplitl [HO]; · iexact HO
      iexact Hb3
    iintro ⟨HO, Hv3, Hr3⟩
    iapply (emit 3) $$ [Hx Hy Hr3 Ho3]
    · isplitl [Hx]; · iexact Hx
      isplitl [Hy]; · iexact Hy
      isplitl [Hr3] <;> iassumption
    iintro ⟨Hx, Hy, Hr3, Ho3⟩
    unfold runs; rw [wp_ret]; imodintro
    iapply Hk
    unfold bodyPost
    isplitl [Hs0 Hs1 Hs2 Hs3]
    · iapply (held_join (F := F) c sM)
      rw [bigSep_four]
      isplitl [Hs0]; · iexact Hs0
      isplitl [Hs1]; · iexact Hs1
      isplitl [Hs2] <;> iassumption
    isplitl [Hr0 Hr1 Hr2 Hr3]
    · iapply (held_join (F := F) c rM)
      rw [bigSep_four]
      isplitl [Hr0]; · iexact Hr0
      isplitl [Hr1]; · iexact Hr1
      isplitl [Hr2] <;> iassumption
    isplitl [HzB]; · iexact HzB
    isplitl [Hz0 Hz1 Hz2 Hz3]
    · rw [bigSep_four]
      isplitl [Hz0]; · iexact Hz0
      isplitl [Hz1]; · iexact Hz1
      isplitl [Hz2] <;> iassumption
    isplitl [Hv0 Hv1 Hv2 Hv3]
    · rw [bigSep_four]
      isplitl [Hv0]; · iexact Hv0
      isplitl [Hv1]; · iexact Hv1
      isplitl [Hv2] <;> iassumption
    isplitl [HO]; · iexact HO
    isplitl [Hx]; · iexact Hx
    isplitl [Hy]; · iexact Hy
    iapply (owns_join c oM (outAt m c))
    simp only [outAt_emb]
    rw [bigSep_four]
    isplitl [Ho0]; · iexact Ho0
    isplitl [Ho1]; · iexact Ho1
    isplitl [Ho2] <;> iassumption

end Cert.KernelIdeal.Scatter

end
-- ==== Proof.Ideal.Obligation.lean ====
/-
The proof data of the one kernel region — what each window's array and staging buffer hold before and after,
what the body takes along and what it owes — and the body's obligation over it.
-/
module

public import proofs.«01_k».proof.Proof.Ideal.Body

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the body takes along: the exchange's state and the two exchange buffers; -/
def enter (c : Dev nD) : sProp 𝕄 := iprop(start m c ∗ held (F := F) c sM ∗ held (F := F) c rM)
/-- and what it leaves: the two buffers, and all nine semaphores at zero. -/
def leave (c : Dev nD) : sProp 𝕄 :=
  iprop(held (F := F) c sM ∗ held (F := F) c rM ∗ semVal (barCell c) 0
    ∗ (bigSep Finset.univ fun k : Fin 4 => semVal (sendCell c k) 0) ∗ (bigSep Finset.univ fun k : Fin 4 => semVal (recvCell c k) 0))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => ystg m c
    | ⟨2, _⟩ => outAt m c
  Φ t := match t with
    | ⟨0, _⟩ => enter m c
    | ⟨_ + 1, _⟩ => leave (F := F) c
  q _ := fullShare
  owed t := match t with
    | ⟨0, _⟩ => O₀ c
    | ⟨_ + 1, _⟩ => 0

/-- A whole staging buffer, owned at contents `X`. -/
theorem staged_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem held_send (c : Dev nD) : held (F := F) c sM
    = iprop(∃ f : Buf (Elt F) ((c : Thread nD τ).loc cc0_scratch0), ((c : Thread nD τ).loc cc0_scratch0) ↦{fullShare} f) := by
  unfold held; simp only [Memref.view_whole, View.set_whole]
theorem held_recv (c : Dev nD) : held (F := F) c rM
    = iprop(∃ f : Buf (Elt F) ((c : Thread nD τ).loc cc0_scratch1), ((c : Thread nD τ).loc cc0_scratch1) ↦{fullShare} f) := by
  unfold held; simp only [Memref.view_whole, View.set_whole]
theorem held_out (c : Dev nD) : held (F := F) c oM
    = iprop(∃ f : Buf (Elt F) ((c : Thread nD τ).loc cc0_stg2_0), ((c : Thread nD τ).loc cc0_stg2_0) ↦{fullShare} f) := by
  unfold held; simp only [Memref.view_whole, View.set_whole]

/-- A whole staging buffer at contents `X`, as its points-to. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The obligation's two sides, the windows one by one. -/
def pointPre (c : Dev nD) : sProp 𝕄 :=
  iprop(enter m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def pointPost (c : Dev nD) : sProp 𝕄 :=
  iprop(leave (F := F) c ∗ (dats m 0 c).owesAt () t0_0.succ
    ∗ stg c cc0_stg0_0 (xstg m c) ∗ stg c cc0_stg1_0 (ystg m c) ∗ stg c cc0_stg2_0 (outAt m c))

theorem owesAt_start (c : Dev nD) : (dats m 0 c).owesAt () t0_0.castSucc ⊢ (iprop(∃ W, owes (c : Thread nD τ) (O₀ c) W) : sProp 𝕄) := by
  unfold Dat.owesAt Pipeline.owesWithin
  iintro ⟨%W, %hW, HO⟩
  iexists W
  iexact HO
theorem owesAt_end (c : Dev nD) : (iprop(∃ W, owes (c : Thread nD τ) 0 W) : sProp 𝕄) ⊢ (dats m 0 c).owesAt () t0_0.succ := by
  unfold Dat.owesAt Pipeline.owesWithin
  iintro ⟨%W, HO⟩
  iexists W
  isplitr; · ipureintro; exact fun _ _ => Or.inl trivial
  iexact HO

theorem pre_intro (c : Dev nD) : pointPre m c ⊢ iprop(∃ K, bodyPre m K c) := by
  unfold pointPre enter start bodyPre
  iintro ⟨⟨⟨⟨%K, HR, Hh⟩, HcB, HcV, Hlev⟩, Hs, Hr⟩, HO, ⟨%d0, %g0, %hg0, Hx⟩, ⟨%d1, %g1, %hg1, Hy⟩, ⟨%d2, %g2, %hg2, Ho⟩⟩
  have hx : g0 = xstg m c := by rw [hg0]; unfold Dat.before; rw [if_pos (fetch0_0 t0_0)]; rfl
  have hy : g1 = ystg m c := by rw [hg1]; unfold Dat.before; rw [if_pos (fetch0_1 t0_0)]; rfl
  subst hx
  subst hy
  iexists K
  isplitl [HR]; · iexact HR
  isplitl [Hh]; · iexact Hh
  isplitl [HcB]; · iexact HcB
  isplitl [HcV]; · iexact HcV
  isplitl [Hlev]; · iexact Hlev
  isplitl [Hs]; · iexact Hs
  isplitl [Hr]; · iexact Hr
  isplitl [HO]; · iapply (owesAt_start m c); iexact HO
  isplitl [Hx]; · unfold xPts; iexact Hx
  isplitl [Hy]; · unfold yPts; iexact Hy
  rw [held_out]
  iexists g2; iexact Ho

theorem post_elim (c : Dev nD) : bodyPost m c ⊢ pointPost m c := by
  unfold pointPost leave bodyPost
  iintro ⟨Hs, Hr, HzB, HzS, HzV, HO, Hx, Hy, Ho⟩
  isplitl [Hs Hr HzB HzS HzV]
  · isplitl [Hs]; · iexact Hs
    isplitl [Hr]; · iexact Hr
    isplitl [HzB]; · iexact HzB
    isplitl [HzS]; · iexact HzS
    iexact HzV
  isplitl [HO]; · iapply (owesAt_end m c); iexact HO
  isplitl [Hx]
  · iexists _; isplitr; · (ipureintro; rfl)
    unfold xPts; iexact Hx
  isplitl [Hy]
  · iexists _; isplitr; · (ipureintro; rfl)
    unfold yPts; iexact Hy
  iapply (Entails.of_eq (staged_eq c cc0_stg2_0 (outAt m c))); iexact Ho

set_option maxRecDepth 4000 in
/-- The body's obligation on device `c`. -/
theorem body_obligation (c : Dev nD) : BodyObligation (dats m 0 c) (defs₀ (F := F)) 𝒱₀ () Set.univ := fun t => by
  rw [fin_N0 t]
  rw [bigSep_W0, bigSep_W0]
  simp only [staged_eq]
  show pointPre m c ⊢ runs c (cc0_body xM (Memref.isWhole_whole _) yM (Memref.isWhole_whole _) oM (Memref.isWhole_whole _)
            sM (Memref.isWhole_whole _) rM (Memref.isWhole_whole _) cc0_scratch2 cc0_scratch3) (fun _ => pointPost m c)
  iintro H
  ihave H' := (pre_intro m c) $$ H
  icases H' with ⟨%K, H'⟩
  iapply (sound_body m K c fun _ => pointPost m c)
  isplitl [H']; · iexact H'
  iintro Hp
  iapply (post_elim m c); iexact Hp

end Cert.KernelIdeal.Scatter

end
-- ==== Proof.Ideal.Deal.lean ====
/-
Dealing out the exchange's state at launch: every cell's invariant is allocated, and every duty's token goes to the
device that pays the duty.
-/
module

public import proofs.«01_k».proof.Proof.Ideal.Protocol

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores, and the barrier -/

abbrev osem (p : Fin 4 ⊕ Fin 4) : SemLoc sig := semOf (.inr p)

theorem ownSemFacts : Pipeline.OwnSemFacts cfg0.spec osem := by decide

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop((bigSep Finset.univ fun k : Fin 4 => semVal (sendCell c k) 0) ∗ bigSep Finset.univ fun k : Fin 4 => semVal (recvCell c k) 0) := by
  unfold Pipeline.ownSems0; rw [bigSep_univ_sum]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun p : Place => semVal (cellAt (c, p)) 0 : sProp 𝕄) := by
  rw [ownSems0_eq, unscopedSems0_eq, bigSep_place]
  iintro ⟨HS, HB⟩
  isplitl [HB]; · iexact HB
  iexact HS

/-! ## The launch element -/

def exCells : Finset (GSem nD τ sig) := Finset.univ.map ⟨cellAt, cellAt_injective⟩

abbrev tokOf (x : Dev nD × Place) : GSem nD τ sig × ℕ × Unit := (cellAt x, 0, ())
theorem tokOf_injective : Function.Injective (tokOf : Dev nD × Place → GSem nD τ sig × ℕ × Unit) :=
  fun x y h => cellAt_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The tokens of the duties at device `c`'s own cells. -/
def toks (c : Dev nD) : sProp 𝕄 := bigSep Finset.univ fun p : Place => dutyTok ER (cellAt (c, p)) 0 ()

/-- What the launch element deals device `c`, -/
def G (c : Dev nD) : sProp 𝕄 :=
  iprop((bigSep Finset.univ fun p : Place => roundState ER (Rd m) (cellAt (c, p)) 0)
    ∗ (bigSep Finset.univ fun p : Place => iprop(atPos ER (cellAt (c, p)) 0 ∅ 0 ∗ reached ER (cellAt (c, p)) 0)) ∗ toks (F := F) c)

/-- and what becomes of it once the invariants are allocated and the tokens exchanged. -/
def G' (c : Dev nD) : sProp 𝕄 := iprop(∃ K, records m K ∗ hand (F := F) c)

theorem fund_exchange : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun p : Place => Φ (cellAt (c, p)) := by
    unfold exCells; rw [bigSep_map, bigSep_univ_prod]; rfl
  have hT : bigSep exToks (fun x => (dutyTok ER x.1 x.2.1 x.2.2 : sProp 𝕄)) = bigSep Finset.univ fun c : Dev nD => toks (F := F) c := by
    unfold exToks; rw [bigSep_map, bigSep_univ_prod]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun p : Place => iprop(∃ κ : ℕ, cellInv ER (Rd m) κ (cellAt (c, p))))
          ∗ (bigSep Finset.univ fun p : Place => iprop(atPos ER (cellAt (c, p)) 0 ∅ 0 ∗ reached ER (cellAt (c, p)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun p : Place => semVal (cellAt (c, p)) 0) ∗ bigSep Finset.univ fun p : Place => roundState ER (Rd m) (cellAt (c, p)) 0)
      ⊢ (|={Set.univ}=> bigSep Finset.univ fun p : Place => iprop(∃ κ : ℕ, cellInv ER (Rd m) κ (cellAt (c, p))) : sProp 𝕄) from by
        rw [← bigSep_sep']
        exact (bigSep_mono fun p _ => (Rounds.body_intro ER (Rd m) (cellAt (c, p))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens -/

/-- The tokens device `c` pays with. -/
def payToks (c : Dev nD) : sProp 𝕄 :=
  iprop(dutyTok ER (barCell (peer c)) 0 () ∗ bigSep Finset.univ fun k : Fin 4 => shipToks (F := F) c k)

/-- The barrier's token and the incoming cells' tokens go to the partner; the outgoing cells' stay. -/
theorem toks_across : (bigSep Finset.univ fun c : Dev nD => (toks (F := F) c : sProp 𝕄)) ⊢ bigSep Finset.univ fun c : Dev nD => payToks (F := F) c := by
  have e1 : (bigSep Finset.univ fun c : Dev nD => (toks (F := F) c : sProp 𝕄))
      = iprop((bigSep Finset.univ fun c : Dev nD => dutyTok ER (barCell c) 0 ())
        ∗ (bigSep Finset.univ fun c : Dev nD => bigSep Finset.univ fun k : Fin 4 => dutyTok ER (sendCell c k) 0 ())
        ∗ bigSep Finset.univ fun c : Dev nD => bigSep Finset.univ fun k : Fin 4 => dutyTok ER (recvCell c k) 0 ()) := by
    rw [← bigSep_sep', ← bigSep_sep']
    exact bigSep_congr fun c _ => by unfold toks; rw [bigSep_place]; rfl
  have e2 : (bigSep Finset.univ fun c : Dev nD => (payToks (F := F) c : sProp 𝕄))
      = iprop((bigSep Finset.univ fun c : Dev nD => dutyTok ER (barCell (peer c)) 0 ())
        ∗ (bigSep Finset.univ fun c : Dev nD => bigSep Finset.univ fun k : Fin 4 => dutyTok ER (sendCell c k) 0 ())
        ∗ bigSep Finset.univ fun c : Dev nD => bigSep Finset.univ fun k : Fin 4 => dutyTok ER (recvCell (peer c) k) 0 ()) := by
    rw [← bigSep_sep', ← bigSep_sep']
    exact bigSep_congr fun c _ => by unfold payToks shipToks; rw [bigSep_sep']
  rw [e1, e2, bigSep_univ_equiv pairing (fun c : Dev nD => (dutyTok ER (barCell c) 0 () : sProp 𝕄)),
    bigSep_univ_equiv pairing (fun c : Dev nD => (bigSep Finset.univ fun k : Fin 4 => dutyTok ER (recvCell c k) 0 () : sProp 𝕄))]
  exact BI.Entails.refl _

/-- A persistent fact beside a collection is beside each of its members. -/
theorem beside_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun p : Place => iprop(∃ κ : ℕ, cellInv ER (Rd m) κ (cellAt (c, p))))
          ∗ (bigSep Finset.univ fun p : Place => iprop(atPos ER (cellAt (c, p)) 0 ∅ 0 ∗ reached ER (cellAt (c, p)) 0)) ∗ toks (F := F) c) : sProp 𝕄)
      ⊢ bigSep Finset.univ (G' m) := by
  rw [bigSep_sep', bigSep_sep', ← bigSep_univ_prod (fun x : Dev nD × Place => iprop(∃ κ : ℕ, cellInv ER (Rd m) κ (cellAt x))),
    bigSep_congr (s := Finset.univ) (fun (c : Dev nD) _ => bigSep_sep' Finset.univ (fun p : Place => (atPos ER (cellAt (c, p)) 0 ∅ 0 : sProp 𝕄)) (fun p => reached ER (cellAt (c, p)) 0)),
    bigSep_sep', ← bigSep_univ_prod (fun x : Dev nD × Place => (reached ER (cellAt x) 0 : sProp 𝕄))]
  iintro ⟨HI, ⟨Hat, #HR⟩, Htok⟩
  ihave HK := (BI.bigSep_exists_pi Finset.univ (fun (x : Dev nD × Place) (κ : ℕ) => (cellInv ER (Rd m) κ (cellAt x) : sProp 𝕄))) $$ HI
  icases HK with ⟨%K, #HI⟩
  ihave Htk := (toks_across (F := F)) $$ Htok
  iapply (beside_all (R := records m K) (Φ := fun c : Dev nD => (hand (F := F) c : sProp 𝕄)) fun c _ => show iprop(records m K ∗ hand (F := F) c) ⊢ G' m c from by
    unfold G'; iintro H; iexists K; iexact H)
  isplitr
  · unfold records; isplitl; · iexact HI
    iexact HR
  · iapply ((Entails.of_eq (bigSep_sep' Finset.univ (fun c : Dev nD => bigSep Finset.univ fun p : Place => (atPos ER (cellAt (c, p)) 0 ∅ 0 : sProp 𝕄)) (payToks (F := F))).symm).trans
      (bigSep_mono fun c _ => show _ ⊢ hand (F := F) c from Entails.of_eq (by unfold hand payToks; rfl)))
    isplitl [Hat]; · iexact Hat
    iexact Htk

/-- All devices' semaphores and dealt state, made into every device's starting state. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes at each place of its partner. -/
def due : Place → ℕ
  | .inl _ => 1
  | .inr (.inl _) => 0
  | .inr (.inr _) => N

theorem tally_at (d c : Dev nD) (p q : Place) (n : ℕ) :
    (tallyAt (cellAt (d, p)) () n : CellTallies nD τ sig Unit) (cellAt (c, q)) () = if c = d ∧ q = p then n else 0 := by
  rw [tallyAt_apply]
  refine if_congr ⟨fun h => ?_, fun h => ?_⟩ rfl rfl
  · have := cellAt_injective h.1
    exact ⟨congrArg Prod.fst this, congrArg Prod.snd this⟩
  · rw [h.1, h.2]; exact ⟨rfl, rfl⟩

theorem owed_at (d c : Dev nD) (p : Place) : O₀ d (cellAt (c, p)) () = if d = peer c then due p else 0 := by
  have e : O₀ d = ((((0 + tallyAt (cellAt (peer d, pInn 3)) () N) + tallyAt (cellAt (peer d, pInn 2)) () N)
      + tallyAt (cellAt (peer d, pInn 1)) () N) + tallyAt (cellAt (peer d, pInn 0)) () N) + tallyAt (cellAt (peer d, pBar)) () 1 := rfl
  rw [e]
  simp only [Pi.add_apply, Finsupp.add_apply, tally_at, Pi.zero_apply, Finsupp.zero_apply]
  by_cases h : c = peer d
  · subst h
    rw [peer_peer, if_pos rfl]
    rcases p with u | k | k
    · cases u; simp [due]
    · simp [due]
    · fin_cases k <;> simp [due]
  · have h' : ¬ d = peer c := fun e => h (by rw [e, peer_peer])
    simp only [h, h', _root_.false_and, if_false]

theorem launch_at (c : Dev nD) (p : Place) :
    tallyOn (cellAt (c, p)) (launchCredit (Pipeline.owing O₀) 0 (cellAt (c, p))) = (tallyAt (cellAt (c, p)) () (due p) : CellTallies nD τ sig Unit) := by
  unfold tallyAt; refine congrArg _ (Finsupp.ext fun u => ?_); cases u
  rw [Pipeline.launchCredit_owing, Finsupp.single_eq_same, Finset.sum_congr rfl fun d _ => owed_at d c p,
    Finset.sum_ite_eq' Finset.univ (peer c) fun _ => due p, if_pos (Finset.mem_univ _)]

/-- A device is credited what its partner owes it. -/
theorem creds (c : Dev nD) :
    (Pipeline.launchCred O₀ c : sProp 𝕄)
      ⊢ iprop(cred (tallyAt (barCell c) () 1) ∗ bigSep Finset.univ fun k : Fin 4 => cred (tallyAt (recvCell c k) () N)) := by
  unfold Pipeline.launchCred
  refine (bigSep_subset (t := Finset.univ.map ⟨semOf, semOf_injective⟩) (Finset.subset_univ _)).trans ?_
  rw [bigSep_map]
  refine (Entails.of_eq (bigSep_congr (s := Finset.univ) (fun (p : Place) _ => show _ = (cred (tallyAt (cellAt (c, p)) () (due p)) : sProp 𝕄) from
    congrArg cred (launch_at c p)))).trans ?_
  rw [bigSep_place]
  iintro ⟨HB, -, HV⟩
  isplitl [HB]; · iexact HB
  iexact HV

end Cert.KernelIdeal.Scatter

end
-- ==== Proof.Ideal.Run.lean ====
/-
The run of the kernel on the whole mesh: it terminates from every memory with zero counters, with every counter at
zero again and every array at its computed contents.
-/
module

public import proofs.«01_k».proof.Proof.Ideal.Obligation
public import proofs.«01_k».proof.Proof.Ideal.Deal
public import Idealize.ShloMosaic.Lib.Pipeline.CollectiveSegs
public import Idealize.ShloMosaic.Lib.Pipeline.ValueKit.Geometry

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem enter_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = enter m c from rfl, scopedRest0_eq]
  unfold enter
  rw [held_send, held_recv]
  iintro ⟨Hs, -, Hb⟩
  isplitl [Hs]; · iexact Hs
  iexact Hb

theorem leave_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = leave (F := F) c from rfl, scopedRest0_eq, ownSems0_eq, unscopedSems0_eq]
  unfold leave
  rw [held_send, held_recv]
  iintro ⟨Hs, Hr, HzB, HzS, HzV⟩
  isplitl [HzB]; · iexact HzB
  isplitl [HzS HzV]
  · isplitl [HzS] <;> iassumption
  isplitl [Hs] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What an array of device `c` holds after the run. -/
def finalA (c : Dev nD) (w : Fin cfg0.W) : Buf (Elt F) ((cfg0.win w).arr.view.loc (c : Thread nD τ)) := (dats m 0 c).arrAt w cfg0.N

set_option maxRecDepth 8000 in
/-- For any float values, from any memory with zero counters: the eight devices' kernels terminate, every array is at
    its computed contents and every semaphore counter at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter_intro m) (hout := leave_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two operands are unchanged, -/
theorem final_x (c : Dev nD) : finalA m c (0 : Fin 3) = m ((c : Thread nD τ).loc main_arg0) :=
  (dats m 0 c).arrAt_in (0 : Fin 3) rfl _
theorem final_y (c : Dev nD) : finalA m c (1 : Fin 3) = m ((c : Thread nD τ).loc main_arg1) :=
  (dats m 0 c).arrAt_in (1 : Fin 3) rfl _
/-- and the result is what the body leaves in its staging buffer. -/
theorem final_out (c : Dev nD) : finalA m c (2 : Fin 3) = (outAt m c : S256x2048.Idx → Elt F .f32) := by
  refine (dats m 0 c).arrAt_eq_of_after_last (2 : Fin 3) t0_0 (by decide +kernel) _ fun j => ?_
  rfl

end Cert.KernelIdeal.Scatter

end
-- ==== Proof.Value.Blocks.lean ====
/-
The block computations over the extended reals, element by element: what is sent is a partial product, what is
written a partial product plus what arrived; and the halves and windows they are computed from, in terms of the
argument arrays.
-/
module

public import proofs.«01_k».proof.Proof.Ideal.Windows
public import Idealize.ShloMosaic.Lib.Pointwise

@[expose] public section

noncomputable section

namespace Cert.KernelIdeal.Scatter

open Cert.KernelIdeal Cert.KernelIdeal.Gen

open Idealize.ShloMosaic
open Idealize.ShloMosaic.TcCoe
open Idealize.SL.Sem

/-- The sent block at row `i` and column `j`. -/
theorem sendOf_at (u : Vec Ideal S512x256 .bf16) (v : Vec Ideal S512x512 .bf16) (i : Fin 256) (j : Fin 512) :
    sendOf (F := Ideal) u v (ix2 i j) = ∑ k : Fin 512, u (ix2 k i) * v (ix2 k j) := by
  unfold sendOf
  pointwise [k0_pay5]

/-- The written block at row `i` and column `j`. -/
theorem outOf_at (u : Vec Ideal S512x256 .bf16) (v : Vec Ideal S512x512 .bf16) (w : Vec Ideal S256x512 .bf16) (i : Fin 256) (j : Fin 512) :
    outOf (F := Ideal) u v w (ix2 i j) = (∑ k : Fin 512, u (ix2 k i) * v (ix2 k j)) + w (ix2 i j) := by
  unfold outOf
  pointwise [k0_pay13]

variable (m : (ℓ : Loc nD τ sig) → Buf (Elt Ideal) ℓ)

/-- The argument arrays of device `c`, by row and column. -/
def xAt (c : Dev nD) (k : Fin 512) (i : Fin 512) : EReal := (m ((c : Thread nD τ).loc main_arg0) : S512x512.Idx → EReal) (ix2 k i)
def yAt (c : Dev nD) (k : Fin 512) (j : Fin 2048) : EReal := (m ((c : Thread nD τ).loc main_arg1) : S512x2048.Idx → EReal) (ix2 k j)

theorem xHalf_at (c : Dev nD) (b : Bool) (k : Fin 512) (i : Fin 256) :
    xHalf m c b (ix2 k i) = xAt m c k ⟨halfAt b + i.val, by cases b <;> simp only [halfAt] <;> omega⟩ := by
  refine congrArg (m ((c : Thread nD τ).loc main_arg0)) (funext fun a => Fin.ext ?_)
  match a with
  | ⟨0, _⟩ => show 0 + 1 * (0 + 1 * k.val) = k.val; omega
  | ⟨1, _⟩ => show 0 + 1 * (halfAt b + 1 * i.val) = halfAt b + i.val; omega

theorem yWin_at (c : Dev nD) (w : Fin 4) (k : Fin 512) (j : Fin 512) :
    yWin m c w (ix2 k j) = yAt m c k ⟨512 * w.val + j.val, by omega⟩ := by
  refine congrArg (m ((c : Thread nD τ).loc main_arg1)) (funext fun a => Fin.ext ?_)
  match a with
  | ⟨0, _⟩ => show 0 + 1 * (0 + 1 * k.val) = k.val; omega
  | ⟨1, _⟩ => show 0 + 1 * (colAt w + 1 * j.val) = 512 * w.val + j.val; rw [colAt_eq]; omega

end Cert.KernelIdeal.Scatter

end
-- ==== Proof.Value.Reference.lean ====
/-
The reference's result over the extended reals, element by element: the sum over all 1024 rows, and that sum as the
two halves' sums.
-/
module

public import proofs.«01_k».proof.Proof.Gen.ReferenceIdeal
public import Idealize.ShloMosaic.Lib.Pointwise

@[expose] public section

noncomputable section

namespace Cert.ReferenceIdeal.Scatter

open Cert.ReferenceIdeal Cert.ReferenceIdeal.Gen

open Idealize.ShloMosaic
open Idealize.ShloMosaic.TcCoe
open Idealize.SL.Sem

/-- The reference's result, from its two arguments: the transpose of the first times the second, rounded to bf16 and
    widened again. -/
abbrev product (X : FVec Ideal S1024x512 .bf16) (Y : FVec Ideal S1024x2048 .bf16) : FVec Ideal S512x2048 .f32 :=
  extf .f32 (truncf .bf16 (Host.dotGeneral dot_S512x1024_S1024x2048_S512x2048_1_0_0_1_n_n none
    (transpose S512x1024 [1, 0] X transposes_S1024x512_S512x1024_1_0) Y) bitsLt_bf16_f32) bitsLt_bf16_f32

/-- At row `r` and column `j` it is the sum over the rows of the arguments. -/
theorem product_at (X : FVec Ideal S1024x512 .bf16) (Y : FVec Ideal S1024x2048 .bf16) (r : Fin 512) (j : Fin 2048) :
    product X Y (ix2 r j) = ∑ k : Fin 1024, X (ix2 k r) * Y (ix2 k j) := by
  unfold product
  pointwise

/-- A sum over 1024 rows, by halves: the half numbered `z` first. -/
theorem sum_halves (f : Fin 1024 → EReal) (z : ℕ) (hz : z < 2) :
    (∑ k : Fin 1024, f k) = (∑ k : Fin 512, f ⟨512 * z + k.val, by omega⟩) + ∑ k : Fin 512, f ⟨512 * (1 - z) + k.val, by omega⟩ := by
  have e : (∑ k : Fin 1024, f k) = (∑ k : Fin 512, f ⟨k.val, by omega⟩) + ∑ k : Fin 512, f ⟨512 + k.val, by omega⟩ :=
    Fin.sum_univ_add (a := 512) (b := 512) f
  have hz' : z = 0 ∨ z = 1 := by omega
  rcases hz' with rfl | rfl
  · rw [e]
    refine congrArg₂ _ (Finset.sum_congr rfl fun k _ => congrArg f (Fin.ext ?_)) (Finset.sum_congr rfl fun k _ => congrArg f (Fin.ext ?_))
    · show k.val = 512 * 0 + k.val; omega
    · show 512 + k.val = 512 * (1 - 0) + k.val; omega
  · rw [e, add_comm]
    refine congrArg₂ _ (Finset.sum_congr rfl fun k _ => congrArg f (Fin.ext ?_)) (Finset.sum_congr rfl fun k _ => congrArg f (Fin.ext ?_))
    · show 512 + k.val = 512 * 1 + k.val; omega
    · show k.val = 512 * (1 - 1) + k.val; omega

end Cert.ReferenceIdeal.Scatter

end
-- ==== Proof.Value.Equation.lean ====
/-
The value equation: on every device the kernel's result is the device's block of rows of the reference's result.
-/
module

public import proofs.«01_k».proof.Proof.Value.Blocks
public import proofs.«01_k».proof.Proof.Value.Reference
public import Idealize.ShloMosaic.Lib.Layout

@[expose] public section

noncomputable section

namespace Cert.KernelIdeal.Scatter

open Cert.KernelIdeal Cert.KernelIdeal.Gen

open Idealize.ShloMosaic
open Idealize.ShloMosaic.TcCoe
open Idealize.SL.Sem

/-- The block number of device `c` along the cut axis is its last mesh coordinate. -/
theorem rows_of (c : Dev nD) : Layout.meshLin [2, 2, 2] c.val [2] = c.val % 2 := by revert c; decide

/-- The row of the whole first argument that device `c` holds as its row `k`, and likewise of the second argument
    and of the result. -/
theorem xBlock_idx (h : Layout.TilesN ⟨2, ![512, 512]⟩ ⟨2, ![1024, 512]⟩ _) (c : Dev nD) (k : Fin 512) (i : Fin 512) :
    h.idx (Layout.meshBlock [2, 2, 2] ![[2], []] c) (ix2 k i) = ix2 (n0 := 1024) (n1 := 512) ⟨512 * (c.val % 2) + k.val, by omega⟩ i := by
  funext b
  apply Fin.ext
  rw [Layout.TilesN.idx_val]
  match b with
  | ⟨0, _⟩ => show Layout.meshLin [2, 2, 2] c.val [2] * 512 + k.val = 512 * (c.val % 2) + k.val; rw [rows_of]; omega
  | ⟨1, _⟩ => show 0 * 512 + i.val = i.val; omega

theorem yBlock_idx (h : Layout.TilesN ⟨2, ![512, 2048]⟩ ⟨2, ![1024, 2048]⟩ _) (c : Dev nD) (k : Fin 512) (j : Fin 2048) :
    h.idx (Layout.meshBlock [2, 2, 2] ![[2], []] c) (ix2 k j) = ix2 (n0 := 1024) (n1 := 2048) ⟨512 * (c.val % 2) + k.val, by omega⟩ j := by
  funext b
  apply Fin.ext
  rw [Layout.TilesN.idx_val]
  match b with
  | ⟨0, _⟩ => show Layout.meshLin [2, 2, 2] c.val [2] * 512 + k.val = 512 * (c.val % 2) + k.val; rw [rows_of]; omega
  | ⟨1, _⟩ => show 0 * 2048 + j.val = j.val; omega

theorem oBlock_idx (h : Layout.TilesN ⟨2, ![256, 2048]⟩ ⟨2, ![512, 2048]⟩ _) (c : Dev nD) (i : Fin 256) (j : Fin 2048) :
    h.idx (Layout.meshBlock [2, 2, 2] ![[2], []] c) (ix2 i j) = ix2 (n0 := 512) (n1 := 2048) ⟨256 * (c.val % 2) + i.val, by omega⟩ j := by
  funext b
  apply Fin.ext
  rw [Layout.TilesN.idx_val]
  match b with
  | ⟨0, _⟩ => show Layout.meshLin [2, 2, 2] c.val [2] * 256 + i.val = 256 * (c.val % 2) + i.val; rw [rows_of]; omega
  | ⟨1, _⟩ => show 0 * 2048 + j.val = j.val; omega

theorem half_keeps (c : Dev nD) : halfAt (keeps c) = 256 * (c.val % 2) := by
  rcases Nat.mod_two_eq_zero_or_one c.val with h | h
  · rw [keeps_even h, h]
  · rw [keeps_odd h, h]

variable (m : (ℓ : Loc nD τ sig) → Buf (Elt Ideal) ℓ)

/-- The result of device `c` at row `i` and column `j`: the product of its own blocks and of its partner's, both at
    the row that `c` keeps. -/
theorem outAt_at (c : Dev nD) (i : Fin 256) (j : Fin 2048) :
    (outAt m c : S256x2048.Idx → EReal) (ix2 i j)
      = (∑ k : Fin 512, xAt m c k ⟨256 * (c.val % 2) + i.val, by omega⟩ * yAt m c k j)
        + ∑ k : Fin 512, xAt m (peer c) k ⟨256 * (c.val % 2) + i.val, by omega⟩ * yAt m (peer c) k j := by
  have hw : winOf (ix2 i j) = ⟨j.val / 512, by omega⟩ := rfl
  have hi : inWin (ix2 i j) = ix2 (n0 := 256) (n1 := 512) i ⟨j.val % 512, Nat.mod_lt _ (by decide)⟩ := rfl
  have hx : ∀ (d : Dev nD) (k : Fin 512), xHalf m d (keeps c) (ix2 k i) = xAt m d k ⟨256 * (c.val % 2) + i.val, by omega⟩ := fun d k => by
    rw [xHalf_at]
    exact congrArg (xAt m d k) (Fin.ext (congrArg (· + i.val) (half_keeps c)))
  have hy : ∀ (d : Dev nD) (k : Fin 512), yWin m d ⟨j.val / 512, by omega⟩ (ix2 k ⟨j.val % 512, Nat.mod_lt _ (by decide)⟩) = yAt m d k j := fun d k => by
    rw [yWin_at]
    exact congrArg (yAt m d k) (Fin.ext (Nat.div_add_mod j.val 512))
  show summed m c (winOf (ix2 i j)) (inWin (ix2 i j)) = _
  rw [hw, hi]
  unfold summed
  rw [outOf_at]
  unfold sent
  rw [sendOf_at, keeps_peer, Bool.not_not]
  simp only [hx, hy]

/-- The kernel's result on device `c` is block `c` of the reference's result, if its arguments are the blocks of the
    reference's. -/
theorem result_eq (X : FVec Ideal Cert.ReferenceIdeal.S1024x512 .bf16) (Y : FVec Ideal Cert.ReferenceIdeal.S1024x2048 .bf16)
    (hX : ∀ c : Dev nD, m ((c : Thread nD τ).loc main_arg0)
      = Layout.blockN ⟨2, ![512, 512]⟩ ⟨2, ![1024, 512]⟩ (Layout.meshBlock [2, 2, 2] ![[2], []] c) X)
    (hY : ∀ c : Dev nD, m ((c : Thread nD τ).loc main_arg1)
      = Layout.blockN ⟨2, ![512, 2048]⟩ ⟨2, ![1024, 2048]⟩ (Layout.meshBlock [2, 2, 2] ![[2], []] c) Y)
    (c : Dev nD) :
    (outAt m c : S256x2048.Idx → EReal)
      = Layout.blockN ⟨2, ![256, 2048]⟩ ⟨2, ![512, 2048]⟩ (Layout.meshBlock [2, 2, 2] ![[2], []] c) (Cert.ReferenceIdeal.Scatter.product X Y) := by
  have hx : ∀ (d : Dev nD) (k i : Fin 512), xAt m d k i = X (ix2 (n0 := 1024) (n1 := 512) ⟨512 * (d.val % 2) + k.val, by omega⟩ i) := fun d k i =>
    (congrFun (hX d) (ix2 k i)).trans (congrArg X (xBlock_idx _ d k i))
  have hy : ∀ (d : Dev nD) (k : Fin 512) (j : Fin 2048), yAt m d k j = Y (ix2 (n0 := 1024) (n1 := 2048) ⟨512 * (d.val % 2) + k.val, by omega⟩ j) := fun d k j =>
    (congrFun (hY d) (ix2 k j)).trans (congrArg Y (yBlock_idx _ d k j))
  funext q
  obtain ⟨i, j, rfl⟩ : ∃ (i : Fin 256) (j : Fin 2048), q = ix2 i j := ⟨q 0, q 1, eq_ix2 q⟩
  rw [outAt_at]
  refine Eq.trans ?_ (congrArg (Cert.ReferenceIdeal.Scatter.product X Y) (oBlock_idx _ c i j)).symm
  rw [Cert.ReferenceIdeal.Scatter.product_at, Cert.ReferenceIdeal.Scatter.sum_halves _ (c.val % 2) (Nat.mod_lt _ (by decide))]
  simp only [hx, hy, peer_parity]

end Cert.KernelIdeal.Scatter

end
-- ==== Proof.lean ====
module

public import proofs.«01_k».proof.Defs
public import proofs.«01_k».proof.Proof.Bits.Run
public import proofs.«01_k».proof.Proof.Ideal.Run
public import proofs.«01_k».proof.Proof.Value.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The program at its bits runs, leaves its arguments as they were and every counter at zero. -/
theorem frame_bits : Cert.quiescent_Kernel (hKernel := Cert.Kernel.Gen.facts) := fun m g _ =>
  (θ_run _ _ _).mono (fun _ h => ⟨fun c => ⟨(h.1 c (0 : Fin 3)).trans (Cert.Kernel.Scatter.final_x m c),
      (h.1 c (1 : Fin 3)).trans (Cert.Kernel.Scatter.final_y m c)⟩, h.2⟩)
    (Cert.Kernel.Scatter.run_main (F := Bits) m g)

/-- So does the program over the extended reals, -/
theorem frame_ideal : Cert.quiescent_KernelIdeal (hKernelIdeal := Cert.KernelIdeal.Gen.facts) := fun m g _ =>
  (θ_run _ _ _).mono (fun _ h => ⟨fun c => ⟨(h.1 c (0 : Fin 3)).trans (Cert.KernelIdeal.Scatter.final_x m c),
      (h.1 c (1 : Fin 3)).trans (Cert.KernelIdeal.Scatter.final_y m c)⟩, h.2⟩)
    (Cert.KernelIdeal.Scatter.run_main (F := Ideal) m g)

/-- and so does the reference. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The kernel's results on the eight devices are the blocks of the reference's result. -/
theorem algebraic : Cert.algebraic_KernelIdeal_ReferenceIdeal (hKernelIdeal := Cert.KernelIdeal.Gen.facts)
    (hReferenceIdeal := Cert.ReferenceIdeal.Gen.facts) := fun m g m' g' _ hagree =>
  ⟨Cert.ReferenceIdeal.Scatter.product
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨((h.1 c (2 : Fin 3)).trans (Cert.KernelIdeal.Scatter.final_out m c)).trans
        (Cert.KernelIdeal.Scatter.result_eq m _ _ (fun d => (hagree d).1) (fun d => (hagree d).2) c),
      (h.1 c (0 : Fin 3)).trans (Cert.KernelIdeal.Scatter.final_x m c),
      (h.1 c (1 : Fin 3)).trans (Cert.KernelIdeal.Scatter.final_y m c)⟩)
      (Cert.KernelIdeal.Scatter.run_main (F := Ideal) m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  frame_bits, frame_ideal, frame_reference, trivial, algebraic⟩

end Cert.Proof

end
